-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128x1024 : Shape := ⟨2, ![128, 1024]⟩
abbrev S128x1 : Shape := ⟨2, ![128, 1]⟩
abbrev S128 : Shape := ⟨1, ![128]⟩

abbrev nBuf : Space → Nat
  | .hbm => 2
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1, .f32⟩
  | .local _ .vmem, ⟨5, _⟩ => ⟨S128x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![196], ![false]⟩

def k0_cond2 (i : grid0.Coords) : BitVec 1 :=
  let arg0 : BitVec 32 := BitVec.ofNat 32 (i 0).val
  let c98_i32 : BitVec 32 := 98#32
  let v3 : BitVec 1 := Scalar.cmpi .slt arg0 c98_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c98_i32_2 : BitVec 32 := 98#32
  let v6 : BitVec 1 := Scalar.cmpi .sge arg0 c98_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c97_i32 : BitVec 32 := 97#32
  let v0 : BitVec 32 := Scalar.minsi arg0 c97_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c98_i32 : BitVec 32 := 98#32
  let v0 : BitVec 32 := Scalar.subi arg0 c98_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S128x2 : Shape := ⟨2, ![128, 2]⟩

abbrev nBuf : Space → Nat
  | .hbm => 308
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S128x100000, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S128x100000, .f32⟩
  | 20 => ⟨S128x100000, .f32⟩
  | 21 => ⟨S128x100000, .f32⟩
  | 22 => ⟨S128x100000, .f32⟩
  | 23 => ⟨S128x100000, .f32⟩
  | 24 => ⟨S128x100000, .i32⟩
  | 25 => ⟨S_, .f32⟩
  | 26 => ⟨S_, .i32⟩
  | 27 => ⟨S128, .f32⟩
  | 28 => ⟨S128, .i32⟩
  | 29 => ⟨S_, .f32⟩
  | 30 => ⟨S128x100000, .f32⟩
  | 31 => ⟨S128, .i32⟩
  | 32 => ⟨S_, .i32⟩
  | 33 => ⟨S128, .i32⟩
  | 34 => ⟨S128, .i1⟩
  | 35 => ⟨S_, .i32⟩
  | 36 => ⟨S128, .i32⟩
  | 37 => ⟨S128, .i32⟩
  | 38 => ⟨S128, .i32⟩
  | 39 => ⟨S_, .i32⟩
  | 40 => ⟨S128, .i32⟩
  | 41 => ⟨S128, .i1⟩
  | 42 => ⟨S_, .i32⟩
  | 43 => ⟨S128, .i32⟩
  | 44 => ⟨S128, .i32⟩
  | 45 => ⟨S128, .i32⟩
  | 46 => ⟨S128x1, .i32⟩
  | 47 => ⟨S128x1, .i32⟩
  | 48 => ⟨S128x2, .i32⟩
  | 49 => ⟨S_, .f32⟩
  | 50 => ⟨S128, .f32⟩
  | 51 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_cst : Ref sig .tc := ⟨.hbm, 12, rfl⟩
abbrev main_call0_cst_0 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_c : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_c_0 : Ref sig .tc := ⟨.hbm, 26, rfl⟩
abbrev main_call0_call0_v11 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_c_1 : Ref sig .tc := ⟨.hbm, 30, rfl⟩
abbrev main_call0_call0_v14 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_call0_v0 : Ref sig .tc := ⟨.hbm, 35, rfl⟩
abbrev main_call0_call0_call0_c : Ref sig .tc := ⟨.hbm, 36, rfl⟩
abbrev main_call0_call0_call0_v1 : Ref sig .tc := ⟨.hbm, 37, rfl⟩
abbrev main_call0_call0_call0_v2 : Ref sig .tc := ⟨.hbm, 38, rfl⟩
abbrev main_call0_call0_call0_v3 : Ref sig .tc := ⟨.hbm, 39, rfl⟩
abbrev main_call0_call0_call0_v4 : Ref sig .tc := ⟨.hbm, 40, rfl⟩
abbrev main_call0_call0_call0_v5 : Ref sig .tc := ⟨.hbm, 41, rfl⟩
abbrev main_call0_call0_call0_v6 : Ref sig .tc := ⟨.hbm, 42, rfl⟩
abbrev main_call0_call0_call0_c_0 : Ref sig .tc := ⟨.hbm, 43, rfl⟩
abbrev main_call0_call0_call0_v7 : Ref sig .tc := ⟨.hbm, 44, rfl⟩
abbrev main_call0_call0_call0_v8 : Ref sig .tc := ⟨.hbm, 45, rfl⟩
abbrev main_call0_call0_call0_c_1 : Ref sig .tc := ⟨.hbm, 46, rfl⟩
abbrev main_call0_call0_call0_v9 : Ref sig .tc := ⟨.hbm, 47, rfl⟩
abbrev main_call0_call0_call0_v10 : Ref sig .tc := ⟨.hbm, 48, rfl⟩
abbrev main_call0_call0_call0_v11 : Ref sig .tc := ⟨.hbm, 49, rfl⟩
abbrev main_call0_call0_call0_v12 : Ref sig .tc := ⟨.hbm, 50, rfl⟩
abbrev main_call0_call0_call0_v13 : Ref sig .tc := ⟨.hbm, 51, rfl⟩
abbrev main_call0_call0_call0_c_2 : Ref sig .tc := ⟨.hbm, 52, rfl⟩
abbrev main_call0_call0_call0_v14 : Ref sig .tc := ⟨.hbm, 53, rfl⟩
abbrev main_call0_call0_call0_v15 : Ref sig .tc := ⟨.hbm, 54, rfl⟩
abbrev main_call0_call0_call0_c_3 : Ref sig .tc := ⟨.hbm, 55, rfl⟩
abbrev main_call0_call0_call0_v16 : Ref sig .tc := ⟨.hbm, 56, rfl⟩
abbrev main_call0_call0_call0_v17 : Ref sig .tc := ⟨.hbm, 57, rfl⟩
abbrev main_call0_call0_call0_v18 : Ref sig .tc := ⟨.hbm, 58, rfl⟩
abbrev main_call0_call0_call0_v19 : Ref sig .tc := ⟨.hbm, 59, rfl⟩
abbrev main_call0_call0_call0_v20 : Ref sig .tc := ⟨.hbm, 60, rfl⟩
abbrev main_call0_call0_call0_c_4 : Ref sig .tc := ⟨.hbm, 61, rfl⟩
abbrev main_call0_call0_call0_v21 : Ref sig .tc := ⟨.hbm, 62, rfl⟩
abbrev main_call0_call0_call0_v22 : Ref sig .tc := ⟨.hbm, 63, rfl⟩
abbrev main_call0_call0_call0_c_5 : Ref sig .tc := ⟨.hbm, 64, rfl⟩
abbrev main_call0_call0_call0_v23 : Ref sig .tc := ⟨.hbm, 65, rfl⟩
abbrev main_call0_call0_call0_v24 : Ref sig .tc := ⟨.hbm, 66, rfl⟩
abbrev main_call0_call0_call0_v25 : Ref sig .tc := ⟨.hbm, 67, rfl⟩
abbrev main_call0_call0_call0_v26 : Ref sig .tc := ⟨.hbm, 68, rfl⟩
abbrev main_call0_call0_call0_v27 : Ref sig .tc := ⟨.hbm, 69, rfl⟩
abbrev main_call0_call0_call0_c_6 : Ref sig .tc := ⟨.hbm, 70, rfl⟩
abbrev main_call0_call0_call0_v28 : Ref sig .tc := ⟨.hbm, 71, rfl⟩
abbrev main_call0_call0_call0_v29 : Ref sig .tc := ⟨.hbm, 72, rfl⟩
abbrev main_call0_call0_call0_c_7 : Ref sig .tc := ⟨.hbm, 73, rfl⟩
abbrev main_call0_call0_call0_v30 : Ref sig .tc := ⟨.hbm, 74, rfl⟩
abbrev main_call0_call0_call0_v31 : Ref sig .tc := ⟨.hbm, 75, rfl⟩
abbrev main_call0_call0_call0_v32 : Ref sig .tc := ⟨.hbm, 76, rfl⟩
abbrev main_call0_call0_call0_v33 : Ref sig .tc := ⟨.hbm, 77, rfl⟩
abbrev main_call0_call0_call0_v34 : Ref sig .tc := ⟨.hbm, 78, rfl⟩
abbrev main_call0_call0_call0_v35 : Ref sig .tc := ⟨.hbm, 79, rfl⟩
abbrev main_call0_call0_call0_v36 : Ref sig .tc := ⟨.hbm, 80, rfl⟩
abbrev main_call0_call0_call0_v37 : Ref sig .tc := ⟨.hbm, 81, rfl⟩
abbrev main_call0_call0_call0_c_8 : Ref sig .tc := ⟨.hbm, 82, rfl⟩
abbrev main_call0_call0_call0_v38 : Ref sig .tc := ⟨.hbm, 83, rfl⟩
abbrev main_call0_call0_call0_v39 : Ref sig .tc := ⟨.hbm, 84, rfl⟩
abbrev main_call0_call0_call0_v40 : Ref sig .tc := ⟨.hbm, 85, rfl⟩
abbrev main_call0_call0_call0_c_9 : Ref sig .tc := ⟨.hbm, 86, rfl⟩
abbrev main_call0_call0_call0_v41 : Ref sig .tc := ⟨.hbm, 87, rfl⟩
abbrev main_call0_call0_call0_v42 : Ref sig .tc := ⟨.hbm, 88, rfl⟩
abbrev main_call0_call0_call0_c_10 : Ref sig .tc := ⟨.hbm, 89, rfl⟩
abbrev main_call0_call0_call0_v43 : Ref sig .tc := ⟨.hbm, 90, rfl⟩
abbrev main_call0_call0_call0_v44 : Ref sig .tc := ⟨.hbm, 91, rfl⟩
abbrev main_call0_call0_call0_v45 : Ref sig .tc := ⟨.hbm, 92, rfl⟩
abbrev main_call0_call0_call0_v46 : Ref sig .tc := ⟨.hbm, 93, rfl⟩
abbrev main_call0_call0_call0_v47 : Ref sig .tc := ⟨.hbm, 94, rfl⟩
abbrev main_call0_call0_call0_c_11 : Ref sig .tc := ⟨.hbm, 95, rfl⟩
abbrev main_call0_call0_call0_v48 : Ref sig .tc := ⟨.hbm, 96, rfl⟩
abbrev main_call0_call0_call0_v49 : Ref sig .tc := ⟨.hbm, 97, rfl⟩
abbrev main_call0_call0_call0_c_12 : Ref sig .tc := ⟨.hbm, 98, rfl⟩
abbrev main_call0_call0_call0_v50 : Ref sig .tc := ⟨.hbm, 99, rfl⟩
abbrev main_call0_call0_call0_v51 : Ref sig .tc := ⟨.hbm, 100, rfl⟩
abbrev main_call0_call0_call0_v52 : Ref sig .tc := ⟨.hbm, 101, rfl⟩
abbrev main_call0_call0_call0_v53 : Ref sig .tc := ⟨.hbm, 102, rfl⟩
abbrev main_call0_call0_call0_v54 : Ref sig .tc := ⟨.hbm, 103, rfl⟩
abbrev main_call0_call0_call0_c_13 : Ref sig .tc := ⟨.hbm, 104, rfl⟩
abbrev main_call0_call0_call0_v55 : Ref sig .tc := ⟨.hbm, 105, rfl⟩
abbrev main_call0_call0_call0_v56 : Ref sig .tc := ⟨.hbm, 106, rfl⟩
abbrev main_call0_call0_call0_c_14 : Ref sig .tc := ⟨.hbm, 107, rfl⟩
abbrev main_call0_call0_call0_v57 : Ref sig .tc := ⟨.hbm, 108, rfl⟩
abbrev main_call0_call0_call0_v58 : Ref sig .tc := ⟨.hbm, 109, rfl⟩
abbrev main_call0_call0_call0_v59 : Ref sig .tc := ⟨.hbm, 110, rfl⟩
abbrev main_call0_call0_call0_v60 : Ref sig .tc := ⟨.hbm, 111, rfl⟩
abbrev main_call0_call0_call0_v61 : Ref sig .tc := ⟨.hbm, 112, rfl⟩
abbrev main_call0_call0_call0_c_15 : Ref sig .tc := ⟨.hbm, 113, rfl⟩
abbrev main_call0_call0_call0_v62 : Ref sig .tc := ⟨.hbm, 114, rfl⟩
abbrev main_call0_call0_call0_v63 : Ref sig .tc := ⟨.hbm, 115, rfl⟩
abbrev main_call0_call0_call0_c_16 : Ref sig .tc := ⟨.hbm, 116, rfl⟩
abbrev main_call0_call0_call0_v64 : Ref sig .tc := ⟨.hbm, 117, rfl⟩
abbrev main_call0_call0_call0_v65 : Ref sig .tc := ⟨.hbm, 118, rfl⟩
abbrev main_call0_call0_call0_v66 : Ref sig .tc := ⟨.hbm, 119, rfl⟩
abbrev main_call0_call0_call0_v67 : Ref sig .tc := ⟨.hbm, 120, rfl⟩
abbrev main_call0_call0_call0_v68 : Ref sig .tc := ⟨.hbm, 121, rfl⟩
abbrev main_call0_call0_call0_v69 : Ref sig .tc := ⟨.hbm, 122, rfl⟩
abbrev main_call0_call0_call0_v70 : Ref sig .tc := ⟨.hbm, 123, rfl⟩
abbrev main_call0_call0_call0_v71 : Ref sig .tc := ⟨.hbm, 124, rfl⟩
abbrev main_call0_call0_call0_c_17 : Ref sig .tc := ⟨.hbm, 125, rfl⟩
abbrev main_call0_call0_call0_v72 : Ref sig .tc := ⟨.hbm, 126, rfl⟩
abbrev main_call0_call0_call0_v73 : Ref sig .tc := ⟨.hbm, 127, rfl⟩
abbrev main_call0_call0_call0_v74 : Ref sig .tc := ⟨.hbm, 128, rfl⟩
abbrev main_call0_call0_call0_c_18 : Ref sig .tc := ⟨.hbm, 129, rfl⟩
abbrev main_call0_call0_call0_v75 : Ref sig .tc := ⟨.hbm, 130, rfl⟩
abbrev main_call0_call0_call0_v76 : Ref sig .tc := ⟨.hbm, 131, rfl⟩
abbrev main_call0_call0_call0_c_19 : Ref sig .tc := ⟨.hbm, 132, rfl⟩
abbrev main_call0_call0_call0_v77 : Ref sig .tc := ⟨.hbm, 133, rfl⟩
abbrev main_call0_call0_call0_v78 : Ref sig .tc := ⟨.hbm, 134, rfl⟩
abbrev main_call0_call0_call0_v79 : Ref sig .tc := ⟨.hbm, 135, rfl⟩
abbrev main_call0_call0_call0_v80 : Ref sig .tc := ⟨.hbm, 136, rfl⟩
abbrev main_call0_call0_call0_v81 : Ref sig .tc := ⟨.hbm, 137, rfl⟩
abbrev main_call0_call0_call0_c_20 : Ref sig .tc := ⟨.hbm, 138, rfl⟩
abbrev main_call0_call0_call0_v82 : Ref sig .tc := ⟨.hbm, 139, rfl⟩
abbrev main_call0_call0_call0_v83 : Ref sig .tc := ⟨.hbm, 140, rfl⟩
abbrev main_call0_call0_call0_c_21 : Ref sig .tc := ⟨.hbm, 141, rfl⟩
abbrev main_call0_call0_call0_v84 : Ref sig .tc := ⟨.hbm, 142, rfl⟩
abbrev main_call0_call0_call0_v85 : Ref sig .tc := ⟨.hbm, 143, rfl⟩
abbrev main_call0_call0_call0_v86 : Ref sig .tc := ⟨.hbm, 144, rfl⟩
abbrev main_call0_call0_call0_v87 : Ref sig .tc := ⟨.hbm, 145, rfl⟩
abbrev main_call0_call0_call0_v88 : Ref sig .tc := ⟨.hbm, 146, rfl⟩
abbrev main_call0_call0_call0_c_22 : Ref sig .tc := ⟨.hbm, 147, rfl⟩
abbrev main_call0_call0_call0_v89 : Ref sig .tc := ⟨.hbm, 148, rfl⟩
abbrev main_call0_call0_call0_v90 : Ref sig .tc := ⟨.hbm, 149, rfl⟩
abbrev main_call0_call0_call0_c_23 : Ref sig .tc := ⟨.hbm, 150, rfl⟩
abbrev main_call0_call0_call0_v91 : Ref sig .tc := ⟨.hbm, 151, rfl⟩
abbrev main_call0_call0_call0_v92 : Ref sig .tc := ⟨.hbm, 152, rfl⟩
abbrev main_call0_call0_call0_v93 : Ref sig .tc := ⟨.hbm, 153, rfl⟩
abbrev main_call0_call0_call0_v94 : Ref sig .tc := ⟨.hbm, 154, rfl⟩
abbrev main_call0_call0_call0_v95 : Ref sig .tc := ⟨.hbm, 155, rfl⟩
abbrev main_call0_call0_call0_c_24 : Ref sig .tc := ⟨.hbm, 156, rfl⟩
abbrev main_call0_call0_call0_v96 : Ref sig .tc := ⟨.hbm, 157, rfl⟩
abbrev main_call0_call0_call0_v97 : Ref sig .tc := ⟨.hbm, 158, rfl⟩
abbrev main_call0_call0_call0_c_25 : Ref sig .tc := ⟨.hbm, 159, rfl⟩
abbrev main_call0_call0_call0_v98 : Ref sig .tc := ⟨.hbm, 160, rfl⟩
abbrev main_call0_call0_call0_v99 : Ref sig .tc := ⟨.hbm, 161, rfl⟩
abbrev main_call0_call0_call0_v100 : Ref sig .tc := ⟨.hbm, 162, rfl⟩
abbrev main_call0_call0_call0_v101 : Ref sig .tc := ⟨.hbm, 163, rfl⟩
abbrev main_call0_call0_call0_v102 : Ref sig .tc := ⟨.hbm, 164, rfl⟩
abbrev main_call0_call0_call0_v103 : Ref sig .tc := ⟨.hbm, 165, rfl⟩
abbrev main_call0_call0_call0_v104 : Ref sig .tc := ⟨.hbm, 166, rfl⟩
abbrev main_call0_call0_call0_v105 : Ref sig .tc := ⟨.hbm, 167, rfl⟩
abbrev main_call0_call0_call0_c_26 : Ref sig .tc := ⟨.hbm, 168, rfl⟩
abbrev main_call0_call0_call0_v106 : Ref sig .tc := ⟨.hbm, 169, rfl⟩
abbrev main_call0_call0_call0_v107 : Ref sig .tc := ⟨.hbm, 170, rfl⟩
abbrev main_call0_call0_call0_v108 : Ref sig .tc := ⟨.hbm, 171, rfl⟩
abbrev main_call0_call0_call0_c_27 : Ref sig .tc := ⟨.hbm, 172, rfl⟩
abbrev main_call0_call0_call0_v109 : Ref sig .tc := ⟨.hbm, 173, rfl⟩
abbrev main_call0_call0_call0_v110 : Ref sig .tc := ⟨.hbm, 174, rfl⟩
abbrev main_call0_call0_call0_c_28 : Ref sig .tc := ⟨.hbm, 175, rfl⟩
abbrev main_call0_call0_call0_v111 : Ref sig .tc := ⟨.hbm, 176, rfl⟩
abbrev main_call0_call0_call0_v112 : Ref sig .tc := ⟨.hbm, 177, rfl⟩
abbrev main_call0_call0_call0_v113 : Ref sig .tc := ⟨.hbm, 178, rfl⟩
abbrev main_call0_call0_call0_v114 : Ref sig .tc := ⟨.hbm, 179, rfl⟩
abbrev main_call0_call0_call0_v115 : Ref sig .tc := ⟨.hbm, 180, rfl⟩
abbrev main_call0_call0_call0_c_29 : Ref sig .tc := ⟨.hbm, 181, rfl⟩
abbrev main_call0_call0_call0_v116 : Ref sig .tc := ⟨.hbm, 182, rfl⟩
abbrev main_call0_call0_call0_v117 : Ref sig .tc := ⟨.hbm, 183, rfl⟩
abbrev main_call0_call0_call0_c_30 : Ref sig .tc := ⟨.hbm, 184, rfl⟩
abbrev main_call0_call0_call0_v118 : Ref sig .tc := ⟨.hbm, 185, rfl⟩
abbrev main_call0_call0_call0_v119 : Ref sig .tc := ⟨.hbm, 186, rfl⟩
abbrev main_call0_call0_call0_v120 : Ref sig .tc := ⟨.hbm, 187, rfl⟩
abbrev main_call0_call0_call0_v121 : Ref sig .tc := ⟨.hbm, 188, rfl⟩
abbrev main_call0_call0_call0_v122 : Ref sig .tc := ⟨.hbm, 189, rfl⟩
abbrev main_call0_call0_call0_c_31 : Ref sig .tc := ⟨.hbm, 190, rfl⟩
abbrev main_call0_call0_call0_v123 : Ref sig .tc := ⟨.hbm, 191, rfl⟩
abbrev main_call0_call0_call0_v124 : Ref sig .tc := ⟨.hbm, 192, rfl⟩
abbrev main_call0_call0_call0_c_32 : Ref sig .tc := ⟨.hbm, 193, rfl⟩
abbrev main_call0_call0_call0_v125 : Ref sig .tc := ⟨.hbm, 194, rfl⟩
abbrev main_call0_call0_call0_v126 : Ref sig .tc := ⟨.hbm, 195, rfl⟩
abbrev main_call0_call0_call0_v127 : Ref sig .tc := ⟨.hbm, 196, rfl⟩
abbrev main_call0_call0_call0_v128 : Ref sig .tc := ⟨.hbm, 197, rfl⟩
abbrev main_call0_call0_call0_v129 : Ref sig .tc := ⟨.hbm, 198, rfl⟩
abbrev main_call0_call0_call0_c_33 : Ref sig .tc := ⟨.hbm, 199, rfl⟩
abbrev main_call0_call0_call0_v130 : Ref sig .tc := ⟨.hbm, 200, rfl⟩
abbrev main_call0_call0_call0_v131 : Ref sig .tc := ⟨.hbm, 201, rfl⟩
abbrev main_call0_call0_call0_c_34 : Ref sig .tc := ⟨.hbm, 202, rfl⟩
abbrev main_call0_call0_call0_v132 : Ref sig .tc := ⟨.hbm, 203, rfl⟩
abbrev main_call0_call0_call0_v133 : Ref sig .tc := ⟨.hbm, 204, rfl⟩
abbrev main_call0_call0_call0_v134 : Ref sig .tc := ⟨.hbm, 205, rfl⟩
abbrev main_call0_call0_call0_v135 : Ref sig .tc := ⟨.hbm, 206, rfl⟩
abbrev main_call0_call0_call0_v136 : Ref sig .tc := ⟨.hbm, 207, rfl⟩
abbrev main_call0_call0_call0_v137 : Ref sig .tc := ⟨.hbm, 208, rfl⟩
abbrev main_call0_call0_call0_v138 : Ref sig .tc := ⟨.hbm, 209, rfl⟩
abbrev main_call0_call0_call0_v139 : Ref sig .tc := ⟨.hbm, 210, rfl⟩
abbrev main_call0_call0_call0_c_35 : Ref sig .tc := ⟨.hbm, 211, rfl⟩
abbrev main_call0_call0_call0_v140 : Ref sig .tc := ⟨.hbm, 212, rfl⟩
abbrev main_call0_call0_call0_v141 : Ref sig .tc := ⟨.hbm, 213, rfl⟩
abbrev main_call0_call0_call0_v142 : Ref sig .tc := ⟨.hbm, 214, rfl⟩
abbrev main_call0_call0_call0_c_36 : Ref sig .tc := ⟨.hbm, 215, rfl⟩
abbrev main_call0_call0_call0_v143 : Ref sig .tc := ⟨.hbm, 216, rfl⟩
abbrev main_call0_call0_call0_v144 : Ref sig .tc := ⟨.hbm, 217, rfl⟩
abbrev main_call0_call0_call0_c_37 : Ref sig .tc := ⟨.hbm, 218, rfl⟩
abbrev main_call0_call0_call0_v145 : Ref sig .tc := ⟨.hbm, 219, rfl⟩
abbrev main_call0_call0_call0_v146 : Ref sig .tc := ⟨.hbm, 220, rfl⟩
abbrev main_call0_call0_call0_v147 : Ref sig .tc := ⟨.hbm, 221, rfl⟩
abbrev main_call0_call0_call0_v148 : Ref sig .tc := ⟨.hbm, 222, rfl⟩
abbrev main_call0_call0_call0_v149 : Ref sig .tc := ⟨.hbm, 223, rfl⟩
abbrev main_call0_call0_call0_c_38 : Ref sig .tc := ⟨.hbm, 224, rfl⟩
abbrev main_call0_call0_call0_v150 : Ref sig .tc := ⟨.hbm, 225, rfl⟩
abbrev main_call0_call0_call0_v151 : Ref sig .tc := ⟨.hbm, 226, rfl⟩
abbrev main_call0_call0_call0_c_39 : Ref sig .tc := ⟨.hbm, 227, rfl⟩
abbrev main_call0_call0_call0_v152 : Ref sig .tc := ⟨.hbm, 228, rfl⟩
abbrev main_call0_call0_call0_v153 : Ref sig .tc := ⟨.hbm, 229, rfl⟩
abbrev main_call0_call0_call0_v154 : Ref sig .tc := ⟨.hbm, 230, rfl⟩
abbrev main_call0_call0_call0_v155 : Ref sig .tc := ⟨.hbm, 231, rfl⟩
abbrev main_call0_call0_call0_v156 : Ref sig .tc := ⟨.hbm, 232, rfl⟩
abbrev main_call0_call0_call0_c_40 : Ref sig .tc := ⟨.hbm, 233, rfl⟩
abbrev main_call0_call0_call0_v157 : Ref sig .tc := ⟨.hbm, 234, rfl⟩
abbrev main_call0_call0_call0_v158 : Ref sig .tc := ⟨.hbm, 235, rfl⟩
abbrev main_call0_call0_call0_c_41 : Ref sig .tc := ⟨.hbm, 236, rfl⟩
abbrev main_call0_call0_call0_v159 : Ref sig .tc := ⟨.hbm, 237, rfl⟩
abbrev main_call0_call0_call0_v160 : Ref sig .tc := ⟨.hbm, 238, rfl⟩
abbrev main_call0_call0_call0_v161 : Ref sig .tc := ⟨.hbm, 239, rfl⟩
abbrev main_call0_call0_call0_v162 : Ref sig .tc := ⟨.hbm, 240, rfl⟩
abbrev main_call0_call0_call0_v163 : Ref sig .tc := ⟨.hbm, 241, rfl⟩
abbrev main_call0_call0_call0_c_42 : Ref sig .tc := ⟨.hbm, 242, rfl⟩
abbrev main_call0_call0_call0_v164 : Ref sig .tc := ⟨.hbm, 243, rfl⟩
abbrev main_call0_call0_call0_v165 : Ref sig .tc := ⟨.hbm, 244, rfl⟩
abbrev main_call0_call0_call0_c_43 : Ref sig .tc := ⟨.hbm, 245, rfl⟩
abbrev main_call0_call0_call0_v166 : Ref sig .tc := ⟨.hbm, 246, rfl⟩
abbrev main_call0_call0_call0_v167 : Ref sig .tc := ⟨.hbm, 247, rfl⟩
abbrev main_call0_call0_call0_v168 : Ref sig .tc := ⟨.hbm, 248, rfl⟩
abbrev main_call0_call0_call0_v169 : Ref sig .tc := ⟨.hbm, 249, rfl⟩
abbrev main_call0_call0_call0_v170 : Ref sig .tc := ⟨.hbm, 250, rfl⟩
abbrev main_call0_call0_v18_0 : Ref sig .tc := ⟨.hbm, 251, rfl⟩
abbrev main_call0_call0_call0_v172 : Ref sig .tc := ⟨.hbm, 252, rfl⟩
abbrev main_call0_call0_call0_v173 : Ref sig .tc := ⟨.hbm, 253, rfl⟩
abbrev main_call0_call0_call0_c_44 : Ref sig .tc := ⟨.hbm, 254, rfl⟩
abbrev main_call0_call0_call0_v174 : Ref sig .tc := ⟨.hbm, 255, rfl⟩
abbrev main_call0_call0_v18_1 : Ref sig .tc := ⟨.hbm, 256, rfl⟩
abbrev main_call0_call0_v19 : Ref sig .tc := ⟨.hbm, 257, rfl⟩
abbrev main_call0_call0_c_2 : Ref sig .tc := ⟨.hbm, 258, rfl⟩
abbrev main_call0_call0_v20 : Ref sig .tc := ⟨.hbm, 259, rfl⟩
abbrev main_call0_call0_v21 : Ref sig .tc := ⟨.hbm, 260, rfl⟩
abbrev main_call0_call0_c_3 : Ref sig .tc := ⟨.hbm, 261, rfl⟩
abbrev main_call0_call0_v22 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_cst : Ref sig .tc := ⟨.hbm, 265, rfl⟩
abbrev main_call0_call0_v25 : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_v0 : Ref sig .tc := ⟨.hbm, 274, rfl⟩
abbrev main_call0_v1 : Ref sig .tc := ⟨.hbm, 275, rfl⟩
abbrev main_call0_v2 : Ref sig .tc := ⟨.hbm, 276, rfl⟩
abbrev main_call0_v3 : Ref sig .tc := ⟨.hbm, 277, rfl⟩
abbrev main_v8 : Ref sig .tc := ⟨.hbm, 278, rfl⟩
abbrev main_v9 : Ref sig .tc := ⟨.hbm, 279, rfl⟩
abbrev main_call1_v0 : Ref sig .tc := ⟨.hbm, 280, rfl⟩
abbrev main_call1_cst : Ref sig .tc := ⟨.hbm, 281, rfl⟩
abbrev main_call1_c : Ref sig .tc := ⟨.hbm, 282, rfl⟩
abbrev main_call1_v1_0 : Ref sig .tc := ⟨.hbm, 283, rfl⟩
abbrev main_v10 : Ref sig .tc := ⟨.hbm, 284, rfl⟩
abbrev main_cst : Ref sig .tc := ⟨.hbm, 285, rfl⟩
abbrev main_v11 : Ref sig .tc := ⟨.hbm, 286, rfl⟩
abbrev main_v12 : Ref sig .tc := ⟨.hbm, 287, rfl⟩
abbrev main_c_2 : Ref sig .tc := ⟨.hbm, 288, rfl⟩
abbrev main_v13 : Ref sig .tc := ⟨.hbm, 289, rfl⟩
abbrev main_v14 : Ref sig .tc := ⟨.hbm, 290, rfl⟩
abbrev main_c_3 : Ref sig .tc := ⟨.hbm, 291, rfl⟩
abbrev main_v15 : Ref sig .tc := ⟨.hbm, 292, rfl⟩
abbrev main_v16 : Ref sig .tc := ⟨.hbm, 293, rfl⟩
abbrev main_v17 : Ref sig .tc := ⟨.hbm, 294, rfl⟩
abbrev main_c_4 : Ref sig .tc := ⟨.hbm, 295, rfl⟩
abbrev main_v18 : Ref sig .tc := ⟨.hbm, 296, rfl⟩
abbrev main_v19 : Ref sig .tc := ⟨.hbm, 297, rfl⟩
abbrev main_c_5 : Ref sig .tc := ⟨.hbm, 298, rfl⟩
abbrev main_v20 : Ref sig .tc := ⟨.hbm, 299, rfl⟩
abbrev main_v21 : Ref sig .tc := ⟨.hbm, 300, rfl⟩
abbrev main_v22 : Ref sig .tc := ⟨.hbm, 301, rfl⟩
abbrev main_v23 : Ref sig .tc := ⟨.hbm, 302, rfl⟩
abbrev main_v24 : Ref sig .tc := ⟨.hbm, 303, rfl⟩
abbrev main_v25 : Ref sig .tc := ⟨.hbm, 304, rfl⟩
abbrev main_cst_6 : Ref sig .tc := ⟨.hbm, 305, rfl⟩
abbrev main_v26 : Ref sig .tc := ⟨.hbm, 306, rfl⟩
abbrev main_v27 : Ref sig .tc := ⟨.hbm, 307, rfl⟩

abbrev nD : Nat := 1
abbrev τ : Topo := Topo.v7x

variable {F : FTy → Type} [FloatOps F]
-- ==== Proof.BodyIdeal.lean ====
/-
  The kernel's body at one point of its grid, over symbolic memory references: what the four buffers it touches
  hold when it returns, in each of the three kinds of point (the first, a scan point, an emit point).
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## What one scan point computes -/

/-- The grid coordinate as the body's 32-bit word. -/
abbrev pt (i : grid0.Coords) : BitVec 32 := BitVec.ofNat 32 (i 0).val

/-- The third key word of the generator. -/
abbrev key2 : BitVec 32 := Scalar.xori (Scalar.xori 0#32 42#32) 466688986#32

/-- The values the body's second to fifth parts hand on. -/
def u93 (i : grid0.Coords) : IVec S128x1024 32 := k0_pay26 key2 (k0_pay15 (pt i)) (k0_pay16 (pt i)) (k0_pay17 (pt i))
def u94 (i : grid0.Coords) : IVec S128x1024 32 := k0_pay27 key2 (k0_pay15 (pt i)) (k0_pay16 (pt i)) (k0_pay17 (pt i))
def u135 (i : grid0.Coords) : IVec S128x1024 32 := k0_pay38 (u93 i) (u94 i) k0_pay28
def u141 (i : grid0.Coords) : IVec S128x1024 32 := k0_pay39 (u93 i) (u94 i) k0_pay28
def u183 (i : grid0.Coords) : IVec S128x1024 32 := k0_pay50 key2 (u135 i) (u141 i)
def u185 (i : grid0.Coords) : IVec S128x1024 32 := k0_pay51 key2 (u135 i) (u141 i)
def u187 (i : grid0.Coords) : IVec S128x1024 32 := k0_pay52 key2 (u135 i) (u141 i)

/-- The block's row maxima of the perturbed logits, -/
def bmax (i : grid0.Coords) (X : S128x1024.Idx → Elt F .f32) : FVec F S128x1 .f32 :=
  k0_pay54 (k0_pay8 (pt i)) key2 (u183 i) (u185 i) (u187 i) X
/-- and per lane the column where the lane attains its row's maximum, the largest word elsewhere. -/
def bcand (i : grid0.Coords) (X : S128x1024.Idx → Elt F .f32) : IVec S128x1024 32 :=
  k0_pay55 (k0_pay8 (pt i)) key2 (u183 i) (u185 i) (u187 i) X

/-- The running maximum after a scan point that found `A` there, -/
def nextMax (i : grid0.Coords) (X : S128x1024.Idx → Elt F .f32) (A : S128x1.Idx → Elt F .f32) : S128x1.Idx → Elt F .f32 :=
  k0_pay5 (bmax i X) A A
/-- and the running column. -/
def nextIdx (i : grid0.Coords) (X : S128x1024.Idx → Elt F .f32) (A : S128x1.Idx → Elt F .f32) (J : S128x1.Idx → Elt F .i32) :
    S128x1.Idx → Elt F .i32 :=
  k0_pay4 (bmax i X) (bcand i X) A J

/-! ## The conditions -/

/-- The first conditional's test. -/
abbrev cond1 (i : grid0.Coords) : Prop :=
  Scalar.cmpi .ne (Scalar.extui (Scalar.cmpi .eq (pt i) 0#32) : BitVec 32) 0#32 = 1#1

theorem cond1_iff : ∀ t : Fin cfg0.N, cond1 (grid0.coords t) ↔ t.val = 0 :=
  (by decide +kernel : ∀ t : Fin grid0.N, cond1 (grid0.coords t) ↔ t.val = 0)
theorem cond2_iff : ∀ t : Fin cfg0.N, k0_cond2 (grid0.coords t) = 1#1 ↔ t.val < 98 :=
  (by decide +kernel : ∀ t : Fin grid0.N, k0_cond2 (grid0.coords t) = 1#1 ↔ t.val < 98)
theorem cond3_iff : ∀ t : Fin cfg0.N, k0_cond3 (grid0.coords t) = 1#1 ↔ 98 ≤ t.val :=
  (by decide +kernel : ∀ t : Fin grid0.N, k0_cond3 (grid0.coords t) = 1#1 ↔ 98 ≤ t.val)

/-! ## The runs -/

abbrev sc0 : Memref sig .tc .vmem S128x1 .f32 := Memref.whole cc0_scratch0
abbrev sc1 : Memref sig .tc .vmem S128x1 .i32 := Memref.whole cc0_scratch1

/-- The two scratch buffers of core `c`, whole at `A` and at `J`. -/
abbrev pts0 (c : Dev nD) (A : S128x1.Idx → Elt F .f32) : sProp 𝕄 :=
  sc0.view.loc (c : Thread nD τ) ↦{fullShare} (A : Buf (Elt F) (sc0.view.loc (c : Thread nD τ)))
abbrev pts1 (c : Dev nD) (J : S128x1.Idx → Elt F .i32) : sProp 𝕄 :=
  sc1.view.loc (c : Thread nD τ) ↦{fullShare} (J : Buf (Elt F) (sc1.view.loc (c : Thread nD τ)))

theorem hz : (![0, 0] : Fin 2 → Nat) = fun _ => 0 := funext fun a => by fin_cases a <;> rfl

/-- A whole-buffer load reads the contents; -/
theorem load_all {sp : Space} {e : EltTy} {S : Shape} {off : Fin S.rank → Nat} (h : off = fun _ => 0)
    (v : View sig .tc sp S e) (f : v.ty.Contents (Elt F)) (inb : ∀ a, off a + S.size a ≤ S.size a) :
    v.readAt (Elt F) (Rect.unit off S.size inb).toLoadRect f = v.read (Elt F) f := by
  rw [View.readAt_eq_ld]; exact View.ld_unit_zero h _ _
/-- a whole-buffer store leaves its payload, whatever was stored before it. -/
theorem store_all {sp : Space} {e : EltTy} {S : Shape} {off : Fin S.rank → Nat} (h : off = fun _ => 0)
    (v : View sig .tc sp S e) (f : v.ty.Contents (Elt F)) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-- What the scratch buffers hold after a whole-buffer store is its payload. -/
theorem stored0 (A w : S128x1.Idx → Elt F .f32) (inb : ∀ a, (![0, 0] : Fin 2 → Nat) a + S128x1.size a ≤ S128x1.size a)
    (L : List (View.Piece (Elt F) S128x1 .f32)) :
    sc0.view.writes (Elt F) A ((⟨Rect.unit ![0, 0] S128x1.size inb, w⟩ : View.Piece (Elt F) S128x1 .f32) :: L) = w :=
  store_all hz sc0.view A inb w L
theorem stored1 (J w : S128x1.Idx → Elt F .i32) (inb : ∀ a, (![0, 0] : Fin 2 → Nat) a + S128x1.size a ≤ S128x1.size a)
    (L : List (View.Piece (Elt F) S128x1 .i32)) :
    sc1.view.writes (Elt F) J ((⟨Rect.unit ![0, 0] S128x1.size inb, w⟩ : View.Piece (Elt F) S128x1 .i32) :: L) = w :=
  store_all hz sc1.view J inb w L
theorem loaded0 (A : S128x1.Idx → Elt F .f32) (inb : ∀ a, (![0, 0] : Fin 2 → Nat) a + S128x1.size a ≤ S128x1.size a) :
    View.readAt (Elt F) sc0.view (Rect.unit ![0, 0] S128x1.size inb).toLoadRect A = A := load_all hz sc0.view A inb
theorem loaded1 (J : S128x1.Idx → Elt F .i32) (inb : ∀ a, (![0, 0] : Fin 2 → Nat) a + S128x1.size a ≤ S128x1.size a) :
    View.readAt (Elt F) sc1.view (Rect.unit ![0, 0] S128x1.size inb).toLoadRect J = J := load_all hz sc1.view J inb

/-- A buffer held at contents that read `X` is owned at `X` (`owns`, unfolded). -/
theorem owns_of_read {sp : Space} {e : EltTy} {S : Shape} (c : Dev nD) (M : Memref sig .tc sp S e) (f : M.view.ty.Contents (Elt F))
    (X : S.Idx → Elt F e) (h : M.view.read (Elt F) f = X) :
    (M.view.loc (c : Thread nD τ) ↦[M.view.set]{fullShare} f : sProp 𝕄)
      ⊢ iprop(∃ f, ⌜M.view.read (Elt F) f = X⌝ ∗ M.view.loc (c : Thread nD τ) ↦[M.view.set]{fullShare} f) := by
  iintro H
  iexists f; isplitr [H]
  · ipureintro; exact h
  · iexact H

/-- A scan point after the first. -/
theorem run_scan (c : Dev nD) (i : grid0.Coords) (h1 : ¬ cond1 i) (h2 : k0_cond2 i = 1#1) (h3 : ¬ k0_cond3 i = 1#1)
    (M1 : Memref sig .tc .vmem S128x1024 .f32) (w1 : M1.IsWhole) (M2 : Memref sig .tc .vmem S128x1024 .f32) (w2 : M2.IsWhole)
    (X : S128x1024.Idx → Elt F .f32) (A : S128x1.Idx → Elt F .f32) (J : S128x1.Idx → Elt F .i32) (K : PUnit → sProp 𝕄) :
    iprop(owns (c : Thread nD τ) M1 fullShare X ∗ (∃ Y, owns (c : Thread nD τ) M2 fullShare Y)
        ∗ pts0 c A ∗ pts1 c J
        ∗ (iprop(owns (c : Thread nD τ) M1 fullShare X ∗ owns (c : Thread nD τ) M2 fullShare (k0_pay7 (F := F))
            ∗ pts0 c (nextMax i X A) ∗ pts1 c (nextIdx i X A J)) -∗ K ⟨⟩))
    ⊢ wp frame (wpE (defs₀ (F := F)) Variants.none c none) Set.univ
        (cc0_body i M1 w1 M2 w2 sc0 (Memref.isWhole_whole _) sc1 (Memref.isWhole_whole _)) K := by
  have hA : sc0.IsWhole := Memref.isWhole_whole _
  have hJ : sc1.IsWhole := Memref.isWhole_whole _
  simp only [owns]
  iintro ⟨⟨%f1, %e1, H1⟩, ⟨%Y, ⟨%f2, %e2, H2⟩⟩, HA, HJ, Hk⟩
  simp only [cc0_body_eq_skeleton]; unfold cc0_body_skel
  simp only [k0_part1_eq_skeleton, k0_part2_eq_skeleton, k0_part3_eq_skeleton, k0_part4_eq_skeleton, k0_part5_eq_skeleton]
  sl_exec (disch := first | sl_exact h1 | sl_exact h2 | sl_exact h3)
  sl_step
  iapply Hk
  have e11 : run_scan.sl.r_11 i M1 f1 = bmax i X := by
    unfold run_scan.sl.r_11
    rw [load_all hz, e1]; rfl
  have e12 : run_scan.sl.r_12 i M1 f1 = bcand i X := by
    unfold run_scan.sl.r_12
    rw [load_all hz, e1]; rfl
  rw [e11, e12]
  isplitl [H1]
  · iapply (owns_of_read c M1 f1 X e1); iexact H1
  isplitl [H2]
  · iapply (owns_of_read c M2 _ _ (store_all hz _ _ _ _ _)); iexact H2
  rw [stored0, stored1, loaded0, loaded1]
  isplitl [HA]
  · iexact HA
  · iexact HJ

/-- The first point: the scratch buffers are set before they are used. -/
theorem run_first (c : Dev nD) (i : grid0.Coords) (h1 : cond1 i) (h2 : k0_cond2 i = 1#1) (h3 : ¬ k0_cond3 i = 1#1)
    (M1 : Memref sig .tc .vmem S128x1024 .f32) (w1 : M1.IsWhole) (M2 : Memref sig .tc .vmem S128x1024 .f32) (w2 : M2.IsWhole)
    (X : S128x1024.Idx → Elt F .f32) (A : S128x1.Idx → Elt F .f32) (J : S128x1.Idx → Elt F .i32) (K : PUnit → sProp 𝕄) :
    iprop(owns (c : Thread nD τ) M1 fullShare X ∗ (∃ Y, owns (c : Thread nD τ) M2 fullShare Y)
        ∗ pts0 c A ∗ pts1 c J
        ∗ (iprop(owns (c : Thread nD τ) M1 fullShare X ∗ owns (c : Thread nD τ) M2 fullShare (k0_pay7 (F := F))
            ∗ pts0 c (nextMax i X (k0_pay1 (F := F))) ∗ pts1 c (nextIdx i X (k0_pay1 (F := F)) k0_pay2)) -∗ K ⟨⟩))
    ⊢ wp frame (wpE (defs₀ (F := F)) Variants.none c none) Set.univ
        (cc0_body i M1 w1 M2 w2 sc0 (Memref.isWhole_whole _) sc1 (Memref.isWhole_whole _)) K := by
  have hA : sc0.IsWhole := Memref.isWhole_whole _
  have hJ : sc1.IsWhole := Memref.isWhole_whole _
  simp only [owns]
  iintro ⟨⟨%f1, %e1, H1⟩, ⟨%Y, ⟨%f2, %e2, H2⟩⟩, HA, HJ, Hk⟩
  simp only [cc0_body_eq_skeleton]; unfold cc0_body_skel
  simp only [k0_part1_eq_skeleton, k0_part2_eq_skeleton, k0_part3_eq_skeleton, k0_part4_eq_skeleton, k0_part5_eq_skeleton]
  sl_exec (disch := first | sl_exact h1 | sl_exact h2 | sl_exact h3)
  sl_step
  iapply Hk
  have e11 : run_first.sl.r_11 i M1 f1 = bmax i X := by
    unfold run_first.sl.r_11
    rw [load_all hz, e1]; rfl
  have e12 : run_first.sl.r_12 i M1 f1 = bcand i X := by
    unfold run_first.sl.r_12
    rw [load_all hz, e1]; rfl
  rw [e11, e12]
  have ev : (run_first.sl.v232 : S128x1.Idx → Elt F .f32) = k0_pay1 := by
    unfold run_first.sl.v232 run_first.sl.HA_1
    exact View.readCov_unit_zero _ hz _ _
  have ej : run_first.sl.v234 (F := F) = k0_pay2 := by
    unfold run_first.sl.v234 run_first.sl.HJ_1
    exact View.readCov_unit_zero _ hz _ _
  rw [ev, ej]
  isplitl [H1]
  · iapply (owns_of_read c M1 f1 X e1); iexact H1
  isplitl [H2]
  · iapply (owns_of_read c M2 _ _ (store_all hz _ _ _ _ _)); iexact H2
  rw [stored0, stored1]
  isplitl [HA]
  · iexact HA
  · iexact HJ

/-- An emit point: the output's block is the one-hot of the running column, nothing else changes. -/
theorem run_emit (c : Dev nD) (i : grid0.Coords) (h1 : ¬ cond1 i) (h2 : ¬ k0_cond2 i = 1#1) (h3 : k0_cond3 i = 1#1)
    (M1 : Memref sig .tc .vmem S128x1024 .f32) (w1 : M1.IsWhole) (M2 : Memref sig .tc .vmem S128x1024 .f32) (w2 : M2.IsWhole)
    (X : S128x1024.Idx → Elt F .f32) (A : S128x1.Idx → Elt F .f32) (J : S128x1.Idx → Elt F .i32) (K : PUnit → sProp 𝕄) :
    iprop(owns (c : Thread nD τ) M1 fullShare X ∗ (∃ Y, owns (c : Thread nD τ) M2 fullShare Y)
        ∗ pts0 c A ∗ pts1 c J
        ∗ (iprop(owns (c : Thread nD τ) M1 fullShare X ∗ owns (c : Thread nD τ) M2 fullShare (k0_pay6 (F := F) i J)
            ∗ pts0 c A ∗ pts1 c J) -∗ K ⟨⟩))
    ⊢ wp frame (wpE (defs₀ (F := F)) Variants.none c none) Set.univ
        (cc0_body i M1 w1 M2 w2 sc0 (Memref.isWhole_whole _) sc1 (Memref.isWhole_whole _)) K := by
  have hA : sc0.IsWhole := Memref.isWhole_whole _
  have hJ : sc1.IsWhole := Memref.isWhole_whole _
  simp only [owns]
  iintro ⟨⟨%f1, %e1, H1⟩, ⟨%Y, ⟨%f2, %e2, H2⟩⟩, HA, HJ, Hk⟩
  simp only [cc0_body_eq_skeleton]; unfold cc0_body_skel
  sl_exec (disch := first | sl_exact h1 | sl_exact h2 | sl_exact h3)
  sl_step
  iapply Hk
  rw [loaded1]
  isplitl [H1]
  · iapply (owns_of_read c M1 f1 X e1); iexact H1
  isplitl [H2]
  · iapply (owns_of_read c M2 _ _ (store_all hz _ _ _ _ _)); iexact H2
  isplitl [HA]
  · iexact HA
  · iexact HJ

end Cert.KernelIdeal.Hand
-- ==== Proof.RunIdeal.lean ====
/-
  The run of the kernel, at any float values: what its scratch buffers carry from point to point (the running maximum
  and the running column of each row), the body's obligation at every point, the launch, and the result array in
  closed form: the one-hot rows of the columns the scan ends with.
-/
module

public import proofs.«01_k».proof.Proof.BodyIdeal
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

theorem coords_val : ∀ t : Fin cfg0.N, (grid0.coords t 0).val = t.val :=
  (by decide +kernel : ∀ t : Fin grid0.N, (grid0.coords t 0).val = t.val)
/-- The input's block at a scan point `t` starts at column `1024 t` and is cut at the array's end; -/
theorem xsize0 : ∀ t : Fin cfg0.N, win0_0.xsize (grid0.coords t) 0 = 128
    ∧ (t.val < 98 → win0_0.xsize (grid0.coords t) 1 = min 1024 (100000 - 1024 * t.val)
        ∧ win0_0.index t 0 * win0_0.size 0 = 0 ∧ win0_0.index t 1 * win0_0.size 1 = 1024 * t.val) :=
  (by decide +kernel : ∀ t : Fin grid0.N, win0_0.xsize (grid0.coords t) 0 = 128
    ∧ (t.val < 98 → win0_0.xsize (grid0.coords t) 1 = min 1024 (100000 - 1024 * t.val)
        ∧ win0_0.index t 0 * win0_0.size 0 = 0 ∧ win0_0.index t 1 * win0_0.size 1 = 1024 * t.val))
/-- the output's at an emit point `98 + b` at column `1024 b`. -/
theorem xsize1 : ∀ t : Fin cfg0.N, 98 ≤ t.val → win0_1.xsize (grid0.coords t) 0 = 128
    ∧ win0_1.xsize (grid0.coords t) 1 = min 1024 (100000 - 1024 * (t.val - 98))
    ∧ win0_1.index t 0 * win0_1.size 0 = 0 ∧ win0_1.index t 1 * win0_1.size 1 = 1024 * (t.val - 98) :=
  (by decide +kernel : ∀ t : Fin grid0.N, 98 ≤ t.val → win0_1.xsize (grid0.coords t) 0 = 128
    ∧ win0_1.xsize (grid0.coords t) 1 = min 1024 (100000 - 1024 * (t.val - 98))
    ∧ win0_1.index t 0 * win0_1.size 0 = 0 ∧ win0_1.index t 1 * win0_1.size 1 = 1024 * (t.val - 98))
theorem clip0 : ∀ t t' : Fin cfg0.N, win0_0.index t = win0_0.index t' →
    win0_0.clip (grid0.coords t) = win0_0.clip (grid0.coords t') := by
  intro t t' h
  exact congrArg (fun (ix : Fin 2 → Nat) (a : Fin 2) => Pipeline.Clip.of (ix a) (S128x1024.size a) (S128x100000.size a)) h
theorem flush1 : ∀ t : Fin cfg0.N, (cfg0.win 1).flush t = true ↔ 98 ≤ t.val := by
  intro t
  rw [Pipeline.Window.flush_eq_flushF]
  exact (by decide +kernel : ∀ t : Fin grid0.N, win0_1.flushF t = true ↔ 98 ≤ t.val) t
theorem idle1 : ∀ t : Fin cfg0.N, idle0 1 (grid0.coords t) = false :=
  (by decide +kernel : ∀ t : Fin grid0.N, idle0 1 (grid0.coords t) = false)

/-! ## The scan does not read past the array's end -/

/-- The column of lane `j` of the block at point `i`. -/
theorem col_toNat (t : Fin cfg0.N) (j : S128x1024.Idx) (ht : t.val < 98) :
    (k0_pay8 (pt (grid0.coords t)) j).toNat = 1024 * t.val + (j 1).val := by
  have hj : (j 1).val < 1024 := (j 1).isLt
  show (BitVec.ofNat 32 (0 * 1024 + (j 1).val) + BitVec.ofNat 32 (grid0.coords t 0).val * 1024#32).toNat = _
  rw [coords_val]
  simp only [BitVec.toNat_add, BitVec.toNat_mul, BitVec.toNat_ofNat]
  omega

/-- The perturbed logits of a block depend on the lanes inside the array only: the others are masked. -/
theorem masked_congr (v15 : IVec S128x1024 32) (v20 : BitVec 32) (a b d : IVec S128x1024 32) (X Y : S128x1024.Idx → Elt F .f32)
    (h : ∀ j, IntOp.cmpi .slt (v15 j) 100000#32 = 1#1 → X j = Y j) : k0_pay53 v15 v20 a b d X = k0_pay53 v15 v20 a b d Y := by
  funext j
  unfold k0_pay53
  by_cases hj : IntOp.cmpi .slt (v15 j) 100000#32 = 1#1
  · have := h j hj
    simp only [select, addf, log, this]
  · simp only [select, cmpi, broadcast, Scalar.select]
    exact (if_neg hj).trans (if_neg hj).symm

theorem bmax_congr (i : grid0.Coords) (X Y : S128x1024.Idx → Elt F .f32)
    (h : ∀ j, IntOp.cmpi .slt (k0_pay8 (pt i) j) 100000#32 = 1#1 → X j = Y j) : bmax i X = bmax i Y := by
  unfold bmax k0_pay54; rw [masked_congr _ _ _ _ _ X Y h]
theorem bcand_congr (i : grid0.Coords) (X Y : S128x1024.Idx → Elt F .f32)
    (h : ∀ j, IntOp.cmpi .slt (k0_pay8 (pt i) j) 100000#32 = 1#1 → X j = Y j) : bcand i X = bcand i Y := by
  unfold bcand k0_pay55 k0_pay54; rw [masked_congr _ _ _ _ _ X Y h]

/-- A column word below 100000 is a column below 100000. -/
theorem slt_iff (w : BitVec 32) (h : w.toNat < 2 ^ 31) : IntOp.cmpi .slt w 100000#32 = 1#1 ↔ w.toNat < 100000 := by
  have e : IntOp.cmpi .slt w 100000#32 = BitVec.ofBool (w.slt 100000#32) := rfl
  rw [e, BitVec.slt_eq_decide, BitVec.toInt_eq_toNat_of_lt (by omega)]
  have : (100000#32).toInt = 100000 := by decide
  rw [this]
  by_cases hw : w.toNat < 100000
  · simp only [hw, iff_true]; rw [decide_eq_true (by omega)]; rfl
  · simp only [hw, iff_false]; rw [decide_eq_false (by omega)]; decide

/-- Two fillings of the input's block at a scan point agree on the lanes that are not masked. -/
theorem fill_agree (t : Fin cfg0.N) (ht : t.val < 98) (d d' : S128x1024.Idx → Elt F .f32)
    (B : (win0_0.xblock (grid0.coords t)).Idx → Elt F .f32) (j : S128x1024.Idx)
    (hj : IntOp.cmpi .slt (k0_pay8 (pt (grid0.coords t)) j) 100000#32 = 1#1) :
    win0_0.fill (grid0.coords t) d B j = win0_0.fill (grid0.coords t) d' B j := by
  have hj0 : (j 0).val < 128 := (j 0).isLt
  have hj1 : (j 1).val < 1024 := (j 1).isLt
  have hc := col_toNat t j ht
  rw [slt_iff _ (by omega), hc] at hj
  have hx := xsize0 t
  have hm : win0_0.moved (grid0.coords t) j = true := (win0_0.moved_iff _ j).mpr fun a => by
    match a with
    | ⟨0, _⟩ => exact lt_of_lt_of_eq hj0 hx.1.symm
    | ⟨1, _⟩ => exact lt_of_lt_of_eq (by omega : (j 1).val < min 1024 (100000 - 1024 * t.val)) (hx.2 ht).1.symm
  unfold Pipeline.Window.fill; rw [dif_pos hm, dif_pos hm]

/-! ## The proof data -/

/-- The input's block at point `t`, filled out past the array's end. -/
def xb (c : Dev nD) (t : Fin cfg0.N) : S128x1024.Idx → Elt F .f32 :=
  win0_0.fill (grid0.coords t) (fun _ => Scalar.ofBits .f32 0#32) (iblk m c 0 t)

/-- The running maximum and column before point `n`. -/
def acc (c : Dev nD) : Nat → (S128x1.Idx → Elt F .f32) × (S128x1.Idx → Elt F .i32)
  | 0 => (k0_pay1, k0_pay2)
  | n + 1 =>
    if h : n < 98 then
      have hn : n < cfg0.N := lt_of_lt_of_eq (by omega : n < 196) N_0.symm
      (nextMax (grid0.coords ⟨n, hn⟩) (xb m c ⟨n, hn⟩) (acc c n).1,
        nextIdx (grid0.coords ⟨n, hn⟩) (xb m c ⟨n, hn⟩) (acc c n).1 (acc c n).2)
    else acc c n

theorem acc_scan (c : Dev nD) (t : Fin cfg0.N) (h : t.val < 98) :
    acc m c (t.val + 1) = (nextMax (grid0.coords t) (xb m c t) (acc m c t.val).1,
      nextIdx (grid0.coords t) (xb m c t) (acc m c t.val).1 (acc m c t.val).2) := by
  rw [acc, dif_pos h]
theorem acc_emit (c : Dev nD) : ∀ n, 98 ≤ n → acc m c n = acc m c 98 := by
  intro n hn
  induction n, hn using Nat.le_induction with
  | base => rfl
  | succ n hn ih => rw [acc, dif_neg (by omega), ih]

/-- What the body leaves in the output's block: zeros while it scans, then one-hot rows. -/
def ob (c : Dev nD) (t : Fin cfg0.N) : S128x1024.Idx → Elt F .f32 :=
  if t.val < 98 then k0_pay7 (F := F) else k0_pay6 (F := F) (grid0.coords t) (acc m c 98).2

/-- The scratch buffers before position `n`: anything before the first point, then the running pair. -/
def carried (c : Dev nD) (n : Nat) : sProp 𝕄 :=
  iprop((∃ A J, ⌜n ≠ 0 → A = (acc m c n).1 ∧ J = (acc m c n).2⌝ ∗ pts0 c A ∗ pts1 c J) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => xb m c t
    | ⟨1, _⟩ => ob m c t
  Φ t := carried m c t.val
  q _ := fullShare
  owed _ := 0

/-- The body finds the input's block in its buffer, fetched at this point or kept from an earlier one. -/
theorem before0 (c : Dev nD) (t : Fin cfg0.N) (d) :
    (dats m 0 c).before (0 : Fin 2) t d = win0_0.fill (grid0.coords t) d (iblk m c 0 t) :=
  (dats m 0 c).before_in_eq_fetched (0 : Fin 2) rfl (fun _ => rfl) clip0 (fun t => win0_0.cut_fill _ _ _) t d

theorem defs₀_row (t : Fin cfg0.N) : defs₀ (F := F) .tc cfg0.body (cfg0.bodyArgs t (cfg0.slots t)) = Gen.bodyAt0 t := by
  unfold defs₀; rw [Defs.onTc_tc]

/-- The body at point `t`, its input buffer at contents that agree with the block on the lanes inside the array: the
    output's buffer ends at `ob` and the scratch buffers at the next running pair. -/
theorem run_point (c : Dev nD) (t : Fin cfg0.N)
    (M1 : Memref sig .tc .vmem S128x1024 .f32) (w1 : M1.IsWhole) (M2 : Memref sig .tc .vmem S128x1024 .f32) (w2 : M2.IsWhole)
    (X : S128x1024.Idx → Elt F .f32)
    (hX : t.val < 98 → ∀ j, IntOp.cmpi .slt (k0_pay8 (pt (grid0.coords t)) j) 100000#32 = 1#1 → X j = xb m c t j)
    (A : S128x1.Idx → Elt F .f32) (J : S128x1.Idx → Elt F .i32)
    (hAJ : t.val ≠ 0 → A = (acc m c t.val).1 ∧ J = (acc m c t.val).2) (K : PUnit → sProp 𝕄) :
    iprop(owns (c : Thread nD τ) M1 fullShare X ∗ (∃ Y, owns (c : Thread nD τ) M2 fullShare Y)
        ∗ pts0 c A ∗ pts1 c J
        ∗ (iprop(owns (c : Thread nD τ) M1 fullShare X ∗ owns (c : Thread nD τ) M2 fullShare (ob m c t)
            ∗ pts0 c (acc m c (t.val + 1)).1 ∗ pts1 c (acc m c (t.val + 1)).2) -∗ K ⟨⟩))
    ⊢ wp frame (wpE (defs₀ (F := F)) Variants.none c none) Set.univ
        (cc0_body (grid0.coords t) M1 w1 M2 w2 sc0 (Memref.isWhole_whole _) sc1 (Memref.isWhole_whole _)) K := by
  have h1c := cond1_iff t; have h2c := cond2_iff t; have h3c := cond3_iff t
  by_cases h98 : t.val < 98
  · have e0 : ob m c t = k0_pay7 (F := F) := if_pos h98
    have eM : ∀ A, nextMax (grid0.coords t) X A = nextMax (grid0.coords t) (xb m c t) A := fun A => by
      unfold nextMax; rw [bmax_congr _ _ _ (hX h98)]
    have eI : ∀ A J, nextIdx (grid0.coords t) X A J = nextIdx (grid0.coords t) (xb m c t) A J := fun A J => by
      unfold nextIdx; rw [bmax_congr _ _ _ (hX h98), bcand_congr _ _ _ (hX h98)]
    have eS := acc_scan m c t h98
    have h3 : ¬ k0_cond3 (grid0.coords t) = 1#1 := fun h => by have := h3c.1 h; omega
    by_cases h0 : t.val = 0
    · have h := run_first (F := F) c (grid0.coords t) (h1c.2 h0) (h2c.2 h98) h3 M1 w1 M2 w2 X A J K
      have e00 : acc m c t.val = (k0_pay1, k0_pay2) := by rw [h0]; rfl
      rw [eM, eI] at h
      rw [e0, eS, e00]; exact h
    · have h := run_scan (F := F) c (grid0.coords t) (fun h => h0 (h1c.1 h)) (h2c.2 h98) h3 M1 w1 M2 w2 X A J K
      obtain ⟨rfl, rfl⟩ := hAJ h0
      rw [eM, eI] at h
      rw [e0, eS]; exact h
  · have e0 : ob m c t = k0_pay6 (F := F) (grid0.coords t) (acc m c 98).2 := if_neg h98
    have h := run_emit (F := F) c (grid0.coords t) (fun h => by have := h1c.1 h; omega) (fun h => h98 (h2c.1 h))
      (h3c.2 (by omega)) M1 w1 M2 w2 X A J K
    obtain ⟨rfl, rfl⟩ := hAJ (by omega)
    rw [acc_emit m c t.val (by omega)] at h ⊢
    rw [e0, acc_emit m c (t.val + 1) (by omega)]; exact h

/-- The body's obligation at every point. -/
theorem body_obligation (c : Dev nD) : BodyObligationLoose (dats m 0 c) (defs₀ (F := F)) Variants.none () Set.univ := fun t => by
  rw [bigSep_W0, bigSep_W0, defs₀_row]
  simp only [idle1 t]
  rw [show (dats m 0 c).Φ t.succ = carried m c (t.val + 1) from rfl,
    show (dats m 0 c).Φ t.castSucc = carried m c t.val from rfl,
    show (dats m 0 c).owesAt () t.succ = (dats m 0 c).owesAt () t.castSucc from rfl]
  unfold carried
  iintro ⟨⟨⟨%A, %J, %hAJ, HA, HJ⟩, Hr⟩, Ho, ⟨%d0, H0⟩, ⟨%d1, H1⟩⟩
  rw [before0 m c t d0]
  have hc0 : win0_0.cut (grid0.coords t) (xb m c t) = iblk m c 0 t := win0_0.cut_fill _ _ _
  iapply (run_point m c t _ _ _ _ (win0_0.fill (grid0.coords t) d0 (iblk m c 0 t)) (fun ht j hj => fill_agree t ht _ _ _ j hj) A J hAJ _)
  isplitl [H0]; · iexact H0
  isplitl [H1]; · iexists _; iexact H1
  isplitl [HA]; · iexact HA
  isplitl [HJ]; · iexact HJ
  iintro ⟨H0, H1, HA, HJ⟩
  isplitl [HA HJ Hr]
  · isplitl [HA HJ]
    · iexists _, _
      isplitr
      · ipureintro; exact fun _ => ⟨rfl, rfl⟩
      isplitl [HA]; · iexact HA
      iexact HJ
    · iexact Hr
  isplitl [Ho]; · iexact Ho
  isplitl [H0]
  · iexists d0
    change _ ⊢ owns (c : Thread nD τ) (stage0_0 (cfg0.slots t 0)) fullShare (win0_0.fill (grid0.coords t) d0 (win0_0.cut (grid0.coords t) (xb m c t)))
    rw [hc0]
  · iexists ob m c t
    change _ ⊢ owns (c : Thread nD τ) (stage0_1 (cfg0.slots t 1)) fullShare (win0_1.fill (grid0.coords t) (ob m c t) (win0_1.cut (grid0.coords t) (ob m c t)))
    rw [win0_1.fill_cut]

/-! ## The launch -/

/-- Row `r` of a column of 128 elements. -/
abbrev rowIx (r : Fin 128) : S128x1.Idx := fun a => match a with | ⟨0, _⟩ => r | ⟨1, _⟩ => ⟨0, Nat.one_pos⟩

/-- The one-hot rows: lane (row, column) is 1 where the column is the row's, 0 elsewhere. -/
def oneHot (J : S128x1.Idx → Elt F .i32) : S128x100000.Idx → Elt F .f32 := fun i =>
  FloatOps.sitofp .f32 (BitVec.zeroExtend 32 (IntOp.cmpi .eq (BitVec.ofNat 32 (i 1).val) (J (rowIx (i 0)))))

set_option backward.isDefEq.respectTransparency.types false in
/-- Every weakly fair execution terminates with the arrays at their computed contents and every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ Variants.none m ρ main (body_obligation m)
    (fun c => (dats m 0 c).share_full fun _ => rfl) (fun _ _ => rfl) (V m) (hmain m Variants.none) (fun _ _ => rfl)
    (fun c => by
      show Pipeline.ΦA spec0 c ⊢ carried m c 0
      unfold Pipeline.ΦA carried
      rw [scopedRest0_eq]
      iintro ⟨⟨⟨%A, HA⟩, ⟨%J, HJ⟩⟩, Hr⟩
      isplitl [HA HJ]
      · iexists A, J
        isplitr
        · ipureintro; exact fun h => absurd rfl h
        isplitl [HA]; · iexact HA
        iexact HJ
      · iexact Hr)
    (fun c => by
      show carried m c cfg0.N ⊢ Pipeline.ΦA spec0 c
      unfold Pipeline.ΦA carried
      rw [scopedRest0_eq]
      iintro ⟨⟨%A, %J, -, HA, HJ⟩, Hr⟩
      isplitl [HA HJ]
      · isplitl [HA]
        · iexists A; iexact HA
        · iexists J; iexact HJ
      · iexact Hr)
    (fun r => Pipeline.FramePost cfgs (dats m) 0 (V m) r ∧ r.2.sem = fun _ => 0) (fun _ h => h)

/-! ## The result array -/

/-- An emit point's column word. -/
theorem emit_col (t : Fin cfg0.N) (ht : 98 ≤ t.val) (j : Nat) (hj : j < 1024) :
    BitVec.ofNat 32 (0 * 1024 + j) + (BitVec.ofNat 32 (grid0.coords t 0).val - 98#32) * 1024#32
      = BitVec.ofNat 32 (1024 * (t.val - 98) + j) := by
  rw [coords_val]
  have hN : t.val < 196 := lt_of_lt_of_eq t.isLt N_0
  have e : BitVec.ofNat 32 t.val - 98#32 = BitVec.ofNat 32 (t.val - 98) := by
    apply BitVec.eq_of_toNat_eq; simp only [BitVec.toNat_sub, BitVec.toNat_ofNat]; omega
  rw [e]
  apply BitVec.eq_of_toNat_eq; simp only [BitVec.toNat_add, BitVec.toNat_mul, BitVec.toNat_ofNat]; omega

/-- What an emit point writes back is its block of the one-hot rows, -/
theorem flushed_eq (c : Dev nD) (t : Fin cfg0.N) (hf : (cfg0.win 1).flush t = true) :
    (dats m 0 c).flushed 1 t = (win0_1.blk t).view.read (Elt F) (oneHot (acc m c 98).2) := by
  have ht := (flush1 t).1 hf
  have hx := xsize1 t ht
  show win0_1.cut (grid0.coords t) (ob m c t) = _
  unfold ob
  rw [if_neg (by omega)]
  funext j
  have hj1 : (j 1).val < 1024 := lt_of_lt_of_le (j 1).isLt (win0_1.xsize_le (grid0.coords t) 1)
  have key := emit_col t ht (j 1).val hj1
  have e0 : ((win0_1.rect t).emb j 0).val = (j 0).val := by
    show win0_1.index t 0 * win0_1.size 0 + 1 * (j 0).val = _
    rw [hx.2.2.1]; omega
  have e1 : ((win0_1.rect t).emb j 1).val = 1024 * (t.val - 98) + (j 1).val := by
    show win0_1.index t 1 * win0_1.size 1 + 1 * (j 1).val = _
    rw [hx.2.2.2]; omega
  show FloatOps.sitofp .f32 (BitVec.zeroExtend 32 (IntOp.cmpi .eq
      (BitVec.ofNat 32 (0 * 1024 + (j 1).val) + (BitVec.ofNat 32 (grid0.coords t 0).val - 98#32) * 1024#32)
      (broadcastTo S128x1024 (acc m c 98).2 broadcasts_S128x1_S128x1024 (win0_1.xinj (grid0.coords t) j))))
    = oneHot (acc m c 98).2 ((win0_1.rect t).emb j)
  rw [key]
  unfold oneHot
  rw [e1, broadcastTo_apply _ broadcasts_S128x1_S128x1024 (win0_1.xinj (grid0.coords t) j) (rowIx ((win0_1.rect t).emb j 0)) (fun a => by
    match a with
    | ⟨0, _⟩ => exact e0
    | ⟨1, _⟩ => rfl)]

theorem mem_blk (t : Fin cfg0.N) (ht : 98 ≤ t.val) (i : S128x100000.Idx)
    (h : 1024 * (t.val - 98) ≤ (i 1).val ∧ (i 1).val < 1024 * (t.val - 98) + 1024) :
    i ∈ (win0_1.blk t).view.set := by
  have hx := xsize1 t ht
  have h0 : (i 0).val < 128 := (i 0).isLt
  have h1 : (i 1).val < 100000 := (i 1).isLt
  show i ∈ ((View.whole main_v0).slice (win0_1.rect t)).set
  rw [View.set_slice_whole, Rect.mem_set_unit]
  intro a
  match a with
  | ⟨0, _⟩ =>
    show win0_1.index t 0 * win0_1.size 0 ≤ (i 0).val ∧ (i 0).val < win0_1.index t 0 * win0_1.size 0 + win0_1.xsize (grid0.coords t) 0
    rw [hx.1, hx.2.2.1]; omega
  | ⟨1, _⟩ =>
    show win0_1.index t 1 * win0_1.size 1 ≤ (i 1).val ∧ (i 1).val < win0_1.index t 1 * win0_1.size 1 + win0_1.xsize (grid0.coords t) 1
    rw [hx.2.1, hx.2.2.2]; omega

/-- and the emit points' blocks cover the array. -/
theorem cover (i : S128x100000.Idx) : ∃ t : Fin cfg0.N, (cfg0.win 1).flush t = true ∧ i ∈ (win0_1.blk t).view.set := by
  have h1 : (i 1).val < 100000 := (i 1).isLt
  have hN : cfg0.N = 196 := N_0
  refine ⟨⟨98 + (i 1).val / 1024, by omega⟩, (flush1 _).2 (by simp), mem_blk _ (by simp) i ?_⟩
  dsimp only; omega

/-- So the result array ends holding the one-hot rows of the columns the scan ends with. -/
theorem final_out (c : Dev nD) : (dats m 0 c).arrAt 1 cfg0.N = oneHot (acc m c 98).2 :=
  (dats m 0 c).arrAt_eq_of_cover 1 (oneHot (acc m c 98).2) (flushed_eq m c) cover

/-- The run, read: the result at the one-hot rows, the argument unchanged, every counter at zero. -/
theorem run : θ_run defs (onTc (τ := τ) (main (F := F))) ⟨m, fun _ => 0, ρ⟩ fun r =>
    (∀ c : Dev nD, r.2.mem ((c : Thread nD τ).loc main_v0) = oneHot (acc m c 98).2
      ∧ r.2.mem ((c : Thread nD τ).loc main_arg0) = m ((c : Thread nD τ).loc main_arg0)) ∧ r.2.sem = fun _ => 0 :=
  (θ_run defs _ _).mono (fun _ h => ⟨fun c => ⟨((h.1 c).1 1).trans (final_out m c), ((h.1 c).1 0).trans ((dats m 0 c).arrAt_in 0 rfl _)⟩, h.2⟩)
    (run_main m ρ)

end Cert.KernelIdeal.Hand

end
-- ==== Proof.Line.lean ====
/-
  Straight lines of host operations in which each buffer is written once, and only after the buffers it is computed
  from. After such a line has run every written buffer satisfies its own operation's equation at the FINAL contents,
  so that what the line computes can be read off as a system of equations, with no regard to the order of the
  operations or to which buffers are distinct.
-/
module

public import proofs.«01_k».proof.ReferenceIdeal
public import Idealize.ShloMosaic.Lib.StableHlo.Run

@[expose] public section

noncomputable section

namespace Cert.ReferenceIdeal.Hand

open Idealize.ShloMosaic Idealize.ShloMosaic.TcCoe Idealize.ShloMosaic.StableHlo

variable {F : FTy → Type} [FloatOps F]

/-- Contents of the reference's buffers. -/
abbrev Vals (F : FTy → Type) := Valuation τ sig (Elt F)

/-- One operation of a line: it writes `y`, and what it writes there depends only on what `xs` hold. -/
structure Stmt (F : FTy → Type) where
  op : HloOp τ sig (Elt F)
  xs : List (Ref sig .tc)
  y : Ref sig .tc
  writes_eq : op.writes = {Proc.devRef .tc y}
  sees : ∀ V W : Vals F, (∀ x ∈ xs, V (Proc.devRef .tc x) = W (Proc.devRef .tc x)) →
    op.result V (Proc.devRef .tc y) = op.result W (Proc.devRef .tc y)
  bufs_sub : op.bufs ⊆ tcRefs τ sig
  fresh_eq : op.fresh = ∅

/-- The written buffer's equation, read at the contents `V`. -/
def Stmt.Holds (s : Stmt F) (V : Vals F) : Prop := V (Proc.devRef .tc s.y) = s.op.result V (Proc.devRef .tc s.y)

/-- The line's operations. -/
def opsOf (l : List (Stmt F)) : List (HloOp τ sig (Elt F)) := l.map Stmt.op

/-- Every equation of the line, read at the contents `V`. -/
def Solved (l : List (Stmt F)) (V : Vals F) : Prop := ∀ s ∈ l, s.Holds V

theorem solved_nil (V : Vals F) : Solved ([] : List (Stmt F)) V := fun _ h => nomatch h

theorem solved_cons {s : Stmt F} {l : List (Stmt F)} {V : Vals F} : Solved (s :: l) V ↔ s.Holds V ∧ Solved l V := by
  simp [Solved]

theorem solved_append {l₁ l₂ : List (Stmt F)} {V : Vals F} : Solved (l₁ ++ l₂) V ↔ Solved l₁ V ∧ Solved l₂ V := by
  simp [Solved, or_imp, forall_and]

theorem opsOf_append (l₁ l₂ : List (Stmt F)) : opsOf (l₁ ++ l₂) = opsOf l₁ ++ opsOf l₂ := List.map_append

/-! ## A line whose buffers are numbered in the order they are written -/

/-- From number `n` on, each operation writes a buffer whose number exceeds those of the buffers it reads and those of
    all buffers written before. -/
def climbs : Nat → List (Nat × List Nat) → Bool
  | _, [] => true
  | n, (y, xs) :: l => n.ble y && xs.all (fun x => (x + 1).ble y) && climbs (y + 1) l

/-- What `climbs` is told of a line: of each operation the number of what it writes and of what it reads. -/
def numbers (l : List (Stmt F)) : List (Nat × List Nat) := l.map fun s => (s.y.idx.val, s.xs.map fun x => x.idx.val)

theorem devRef_ne {x y : Ref sig .tc} (h : x.idx.val ≠ y.idx.val) :
    Proc.devRef (τ := τ) .tc x ≠ Proc.devRef .tc y := fun e => h (by rw [Proc.devRef_injective _ e])

/-- Such a line leaves alone every buffer numbered below the first it writes. -/
theorem after_below {r : Ref sig .tc} : ∀ (l : List (Stmt F)) (n : Nat), climbs n (numbers l) = true → r.idx.val < n →
    ∀ V : Vals F, after (opsOf l) V (Proc.devRef .tc r) = V (Proc.devRef .tc r)
  | [], _, _, _, _ => rfl
  | s :: l, n, h, hr, V => by
    simp only [numbers, List.map_cons, climbs, Bool.and_eq_true] at h
    obtain ⟨⟨h1, _⟩, h3⟩ := h
    have h1' : n ≤ s.y.idx.val := Nat.le_of_ble_eq_true h1
    show after (opsOf l) (s.op.result V) _ = _
    rw [after_below l (s.y.idx.val + 1) h3 (by omega), s.op.result_of_not_mem]
    rw [s.writes_eq, Finset.mem_singleton]
    exact devRef_ne (by omega)

/-- After such a line every buffer it wrote satisfies its equation at the final contents. -/
theorem after_solved : ∀ (l : List (Stmt F)) (n : Nat), climbs n (numbers l) = true → ∀ V : Vals F,
    Solved l (after (opsOf l) V)
  | [], _, _, _ => solved_nil _
  | s :: l, n, h, V => by
    simp only [numbers, List.map_cons, climbs, Bool.and_eq_true, List.all_map, List.all_eq_true] at h
    obtain ⟨⟨_, h2⟩, h3⟩ := h
    refine solved_cons.mpr ⟨?_, after_solved l _ h3 (s.op.result V)⟩
    show after (opsOf l) (s.op.result V) (Proc.devRef .tc s.y) = s.op.result (after (opsOf l) (s.op.result V)) (Proc.devRef .tc s.y)
    rw [after_below l _ h3 (Nat.lt_succ_self _)]
    refine s.sees _ _ fun x hx => ?_
    have hlt : x.idx.val + 1 ≤ s.y.idx.val := Nat.le_of_ble_eq_true (h2 x hx)
    rw [after_below l _ h3 (by omega), s.op.result_of_not_mem]
    rw [s.writes_eq, Finset.mem_singleton]
    exact devRef_ne (by omega)

theorem opsOf_bufs (l : List (Stmt F)) : (opsOf l).Forall fun op => op.bufs ⊆ tcRefs τ sig :=
  List.forall_iff_forall_mem.mpr fun op h => by
    obtain ⟨s, _, rfl⟩ := List.mem_map.mp h
    exact s.bufs_sub

theorem opsOf_fresh (l : List (Stmt F)) : ∀ op ∈ opsOf l, op.fresh = ∅ := fun op h => by
  obtain ⟨s, _, rfl⟩ := List.mem_map.mp h
  exact s.fresh_eq

/-! ## The operations, over typed references, and what each one's equation says -/

section

variable {T Tx Ta Tb Tc Td Ty : BufTy}

/-- What the buffer of a typed reference holds. -/
def val (V : Vals F) (x : TRef sig T) : T.Contents (Elt F) := x.ofBuf (V (Proc.devRef .tc x.ref))

theorem val_of_toBuf {V : Vals F} {x : TRef sig T} {v : T.Contents (Elt F)} (h : V (Proc.devRef .tc x.ref) = x.toBuf v) :
    val V x = v := by
  rw [val, h, TRef.ofBuf_toBuf]

/-- An operation of no operand. -/
def nul (y : TRef sig Ty) (v : Ty.Contents (Elt F)) : Stmt F where
  op := TRef.nullary y v
  xs := []
  y := y.ref
  writes_eq := rfl
  sees V W _ := by rw [nullary_result, nullary_result]
  bufs_sub := nullary_bufs_sub ..
  fresh_eq := rfl

/-- An operation of one operand. -/
def un (x : TRef sig Tx) (y : TRef sig Ty) (f : Tx.Contents (Elt F) → Ty.Contents (Elt F)) : Stmt F where
  op := TRef.unary x y f
  xs := [x.ref]
  y := y.ref
  writes_eq := rfl
  sees V W h := by rw [unary_result, unary_result, h x.ref (by simp)]
  bufs_sub := unary_bufs_sub ..
  fresh_eq := rfl

/-- An operation of two operands. -/
def bin (a : TRef sig Ta) (b : TRef sig Tb) (y : TRef sig Ty)
    (f : Ta.Contents (Elt F) → Tb.Contents (Elt F) → Ty.Contents (Elt F)) : Stmt F where
  op := TRef.binary a b y f
  xs := [a.ref, b.ref]
  y := y.ref
  writes_eq := rfl
  sees V W h := by rw [binary_result, binary_result, h a.ref (by simp), h b.ref (by simp)]
  bufs_sub := binary_bufs_sub ..
  fresh_eq := rfl

/-- An operation of three operands. -/
def ter (c : TRef sig Tc) (a : TRef sig Ta) (b : TRef sig Tb) (y : TRef sig Ty)
    (f : Tc.Contents (Elt F) → Ta.Contents (Elt F) → Tb.Contents (Elt F) → Ty.Contents (Elt F)) : Stmt F where
  op := TRef.ternary c a b y f
  xs := [c.ref, a.ref, b.ref]
  y := y.ref
  writes_eq := rfl
  sees V W h := by rw [ternary_result, ternary_result, h a.ref (by simp), h b.ref (by simp), h c.ref (by simp)]
  bufs_sub := ternary_bufs_sub ..
  fresh_eq := rfl

/-- An operation of four operands. -/
def quat (a : TRef sig Ta) (b : TRef sig Tb) (c : TRef sig Tc) (d : TRef sig Td) (y : TRef sig Ty)
    (f : Ta.Contents (Elt F) → Tb.Contents (Elt F) → Tc.Contents (Elt F) → Td.Contents (Elt F) → Ty.Contents (Elt F)) :
    Stmt F where
  op := TRef.quaternary a b c d y f
  xs := [a.ref, b.ref, c.ref, d.ref]
  y := y.ref
  writes_eq := rfl
  sees V W h := by
    rw [quaternary_result, quaternary_result, h a.ref (by simp), h b.ref (by simp), h c.ref (by simp), h d.ref (by simp)]
  bufs_sub := quaternary_bufs_sub ..
  fresh_eq := rfl

/-- A reshape. -/
def resh (x : TRef sig Tx) (y : TRef sig Ty) (he : Tx.elt = Ty.elt) (hn : Tx.shape.ShapeCasts Ty.shape) : Stmt F where
  op := TRef.reshape x y he hn
  xs := [x.ref]
  y := y.ref
  writes_eq := rfl
  sees V W h := by rw [reshape_result, reshape_result, h x.ref (by simp)]
  bufs_sub := reshape_bufs_sub ..
  fresh_eq := rfl

variable {V : Vals F}

theorem holds_nul {y : TRef sig Ty} {v : Ty.Contents (Elt F)} (h : (nul y v).Holds V) : val V y = v :=
  val_of_toBuf (h.trans (nullary_result _ _ y.dev _))

theorem holds_un {x : TRef sig Tx} {y : TRef sig Ty} {f : Tx.Contents (Elt F) → Ty.Contents (Elt F)}
    (h : (un x y f).Holds V) : val V y = f (val V x) :=
  val_of_toBuf (h.trans (unary_result ..))

theorem holds_bin {a : TRef sig Ta} {b : TRef sig Tb} {y : TRef sig Ty}
    {f : Ta.Contents (Elt F) → Tb.Contents (Elt F) → Ty.Contents (Elt F)}
    (h : (bin a b y f).Holds V) : val V y = f (val V a) (val V b) :=
  val_of_toBuf (h.trans (binary_result ..))

theorem holds_ter {c : TRef sig Tc} {a : TRef sig Ta} {b : TRef sig Tb} {y : TRef sig Ty}
    {f : Tc.Contents (Elt F) → Ta.Contents (Elt F) → Tb.Contents (Elt F) → Ty.Contents (Elt F)}
    (h : (ter c a b y f).Holds V) : val V y = f (val V c) (val V a) (val V b) :=
  val_of_toBuf (h.trans (ternary_result ..))

theorem holds_quat {a : TRef sig Ta} {b : TRef sig Tb} {c : TRef sig Tc} {d : TRef sig Td} {y : TRef sig Ty}
    {f : Ta.Contents (Elt F) → Tb.Contents (Elt F) → Tc.Contents (Elt F) → Td.Contents (Elt F) → Ty.Contents (Elt F)}
    (h : (quat a b c d y f).Holds V) : val V y = f (val V a) (val V b) (val V c) (val V d) :=
  val_of_toBuf (h.trans (quaternary_result ..))

end

/-- A reshape between two buffers, its contents read at the types the buffers are known to have. -/
theorem reshape_read {s t : Shape} {e : EltTy} {A B : BufTy} (hA : A = ⟨s, e⟩) (hB : B = ⟨t, e⟩) (he : A.elt = B.elt)
    (hn' : A.shape.ShapeCasts B.shape) (hn : s.ShapeCasts t) (v : A.Contents (Elt F)) :
    cast (congrArg (fun U : BufTy => U.Contents (Elt F)) hB) (fun i => he ▸ shapeCast B.shape v hn' i)
      = shapeCast t (cast (congrArg (fun U : BufTy => U.Contents (Elt F)) hA) v) hn := by
  subst hA hB
  rfl

/-- A reshape from one typed reference to another. -/
theorem holds_resh {s t : Shape} {e : EltTy} {x : TRef sig ⟨s, e⟩} {y : TRef sig ⟨t, e⟩} {hn : s.ShapeCasts t} {V : Vals F}
    (h : (resh (F := F) x y rfl hn).Holds V) : val V y = shapeCast t (val V x) hn := by
  have h' := h.trans (reshape_result _ _ _ _ x.dev y.dev _)
  unfold val TRef.ofBuf
  change V (Proc.devRef .tc y.ref) = _ at h'
  rw [h']
  exact reshape_read x.ty_eq y.ty_eq _ _ hn _

end Cert.ReferenceIdeal.Hand
-- ==== Proof.RefText.lean ====
/-
  The reference as a straight line of operations (Line.lean), function by function.
-/
module

public import proofs.«01_k».proof.Defs
public import proofs.«01_k».proof.Proof.Line
public import proofs.«01_k».proof.Proof.Gen.ReferenceIdeal

@[expose] public section

set_option maxRecDepth 65536

noncomputable section

namespace Cert.ReferenceIdeal.Hand

open Idealize.ShloMosaic Idealize.ShloMosaic.TcCoe Idealize.ShloMosaic.StableHlo Idealize.SL Idealize.SL.Sem
open Facts₀ Facts

instance facts : Cert.ReferenceIdeal.Facts := Cert.ReferenceIdeal.Gen.facts

variable {F : FTy → Type} [FloatOps F]

/-! ## The text, as lists -/

/-- A word or a float repeated over the whole matrix. -/
abbrev spread {e : EltTy} : (⟨S_, e⟩ : BufTy).Contents (Elt F) → (⟨S128x100000, e⟩ : BufTy).Contents (Elt F) :=
  broadcastInDim S128x100000 ![] bcast_S_S128x100000

/-- `y` rotated left by `r` and xor-ed into `x`, given as `z`: the second half of a round of the cipher. -/
def mix (x y : TRef sig ⟨S128x100000, .i32⟩) (c : TRef sig ⟨S_, .i32⟩) (b s : TRef sig ⟨S128x100000, .i32⟩)
    (c' : TRef sig ⟨S_, .i32⟩) (b' s' o z : TRef sig ⟨S128x100000, .i32⟩) (r r' : Nat) : List (Stmt F) :=
  [nul c (constantI S_ 32 (BitVec.ofNat 32 r)), un c b spread, bin y b s Host.shli,
    nul c' (constantI S_ 32 (BitVec.ofNat 32 r')), un c' b' spread, bin y b' s' Host.shrui,
    bin s s' o ori, bin x o z xori]

/-- The key words `k` and `k'` and the count `n` added to the pair `x`, `y`, given as `x'`, `y'`. -/
def inject (k k' : TRef sig ⟨S_, .i32⟩) (x y b x' b' t : TRef sig ⟨S128x100000, .i32⟩) (c : TRef sig ⟨S_, .i32⟩)
    (d y' : TRef sig ⟨S128x100000, .i32⟩) (n : Nat) : List (Stmt F) :=
  [un k b spread, bin x b x' addi, un k' b' spread, bin y b' t addi,
    nul c (constantI S_ 32 (BitVec.ofNat 32 n)), un c d spread, bin t d y' addi]

/-- The block cipher, part 1 of 4. -/
def cipher0 (arg0 arg1 : TRef sig ⟨S_, .i32⟩) (arg2 arg3 : TRef sig ⟨S128x100000, .i32⟩) (φ : fn_threefry2x32.Bufs) : List (Stmt F) :=
  [bin arg0 arg1 φ.v0 xori] ++
    [nul φ.c (constantI S_ 32 466688986#32)] ++
    [bin φ.v0 φ.c φ.v1 xori] ++
    [un arg0 φ.v2 spread] ++
    [bin arg2 φ.v2 φ.v3 addi] ++
    [un arg1 φ.v4 spread] ++
    [bin arg3 φ.v4 φ.v5 addi] ++
    [bin φ.v3 φ.v5 φ.v6 addi] ++
    mix φ.v6 φ.v5 φ.c_0 φ.v7 φ.v8 φ.c_1 φ.v9 φ.v10 φ.v11 φ.v12 13 19 ++
    [bin φ.v6 φ.v12 φ.v13 addi] ++
    mix φ.v13 φ.v12 φ.c_2 φ.v14 φ.v15 φ.c_3 φ.v16 φ.v17 φ.v18 φ.v19 15 17 ++
    [bin φ.v13 φ.v19 φ.v20 addi] ++
    mix φ.v20 φ.v19 φ.c_4 φ.v21 φ.v22 φ.c_5 φ.v23 φ.v24 φ.v25 φ.v26 26 6 ++
    [bin φ.v20 φ.v26 φ.v27 addi] ++
    mix φ.v27 φ.v26 φ.c_6 φ.v28 φ.v29 φ.c_7 φ.v30 φ.v31 φ.v32 φ.v33 6 26 ++
    inject arg1 φ.v1 φ.v27 φ.v33 φ.v34 φ.v35 φ.v36 φ.v37 φ.c_8 φ.v38 φ.v39 1 ++
    [bin φ.v35 φ.v39 φ.v40 addi] ++
    mix φ.v40 φ.v39 φ.c_9 φ.v41 φ.v42 φ.c_10 φ.v43 φ.v44 φ.v45 φ.v46 17 15 ++
    [bin φ.v40 φ.v46 φ.v47 addi]

/-- The block cipher, part 2 of 4. -/
def cipher1 (arg0 arg1 : TRef sig ⟨S_, .i32⟩) (arg2 arg3 : TRef sig ⟨S128x100000, .i32⟩) (φ : fn_threefry2x32.Bufs) : List (Stmt F) :=
  mix φ.v47 φ.v46 φ.c_11 φ.v48 φ.v49 φ.c_12 φ.v50 φ.v51 φ.v52 φ.v53 29 3 ++
    [bin φ.v47 φ.v53 φ.v54 addi] ++
    mix φ.v54 φ.v53 φ.c_13 φ.v55 φ.v56 φ.c_14 φ.v57 φ.v58 φ.v59 φ.v60 16 16 ++
    [bin φ.v54 φ.v60 φ.v61 addi] ++
    mix φ.v61 φ.v60 φ.c_15 φ.v62 φ.v63 φ.c_16 φ.v64 φ.v65 φ.v66 φ.v67 24 8 ++
    inject φ.v1 arg0 φ.v61 φ.v67 φ.v68 φ.v69 φ.v70 φ.v71 φ.c_17 φ.v72 φ.v73 2 ++
    [bin φ.v69 φ.v73 φ.v74 addi] ++
    mix φ.v74 φ.v73 φ.c_18 φ.v75 φ.v76 φ.c_19 φ.v77 φ.v78 φ.v79 φ.v80 13 19 ++
    [bin φ.v74 φ.v80 φ.v81 addi] ++
    mix φ.v81 φ.v80 φ.c_20 φ.v82 φ.v83 φ.c_21 φ.v84 φ.v85 φ.v86 φ.v87 15 17 ++
    [bin φ.v81 φ.v87 φ.v88 addi] ++
    mix φ.v88 φ.v87 φ.c_22 φ.v89 φ.v90 φ.c_23 φ.v91 φ.v92 φ.v93 φ.v94 26 6

/-- The block cipher, part 3 of 4. -/
def cipher2 (arg0 arg1 : TRef sig ⟨S_, .i32⟩) (arg2 arg3 : TRef sig ⟨S128x100000, .i32⟩) (φ : fn_threefry2x32.Bufs) : List (Stmt F) :=
  [bin φ.v88 φ.v94 φ.v95 addi] ++
    mix φ.v95 φ.v94 φ.c_24 φ.v96 φ.v97 φ.c_25 φ.v98 φ.v99 φ.v100 φ.v101 6 26 ++
    inject arg0 arg1 φ.v95 φ.v101 φ.v102 φ.v103 φ.v104 φ.v105 φ.c_26 φ.v106 φ.v107 3 ++
    [bin φ.v103 φ.v107 φ.v108 addi] ++
    mix φ.v108 φ.v107 φ.c_27 φ.v109 φ.v110 φ.c_28 φ.v111 φ.v112 φ.v113 φ.v114 17 15 ++
    [bin φ.v108 φ.v114 φ.v115 addi] ++
    mix φ.v115 φ.v114 φ.c_29 φ.v116 φ.v117 φ.c_30 φ.v118 φ.v119 φ.v120 φ.v121 29 3 ++
    [bin φ.v115 φ.v121 φ.v122 addi] ++
    mix φ.v122 φ.v121 φ.c_31 φ.v123 φ.v124 φ.c_32 φ.v125 φ.v126 φ.v127 φ.v128 16 16 ++
    [bin φ.v122 φ.v128 φ.v129 addi] ++
    mix φ.v129 φ.v128 φ.c_33 φ.v130 φ.v131 φ.c_34 φ.v132 φ.v133 φ.v134 φ.v135 24 8 ++
    inject arg1 φ.v1 φ.v129 φ.v135 φ.v136 φ.v137 φ.v138 φ.v139 φ.c_35 φ.v140 φ.v141 4 ++
    [bin φ.v137 φ.v141 φ.v142 addi]

/-- The block cipher, part 4 of 4. -/
def cipher3 (arg0 arg1 : TRef sig ⟨S_, .i32⟩) (arg2 arg3 : TRef sig ⟨S128x100000, .i32⟩) (φ : fn_threefry2x32.Bufs) : List (Stmt F) :=
  mix φ.v142 φ.v141 φ.c_36 φ.v143 φ.v144 φ.c_37 φ.v145 φ.v146 φ.v147 φ.v148 13 19 ++
    [bin φ.v142 φ.v148 φ.v149 addi] ++
    mix φ.v149 φ.v148 φ.c_38 φ.v150 φ.v151 φ.c_39 φ.v152 φ.v153 φ.v154 φ.v155 15 17 ++
    [bin φ.v149 φ.v155 φ.v156 addi] ++
    mix φ.v156 φ.v155 φ.c_40 φ.v157 φ.v158 φ.c_41 φ.v159 φ.v160 φ.v161 φ.v162 26 6 ++
    [bin φ.v156 φ.v162 φ.v163 addi] ++
    mix φ.v163 φ.v162 φ.c_42 φ.v164 φ.v165 φ.c_43 φ.v166 φ.v167 φ.v168 φ.v169 6 26 ++
    inject φ.v1 arg0 φ.v163 φ.v169 φ.v170 φ.v171 φ.v172 φ.v173 φ.c_44 φ.v174 φ.v175 5

/-- The block cipher: twenty rounds, a key injected after every four. -/
def cipher (arg0 arg1 : TRef sig ⟨S_, .i32⟩) (arg2 arg3 : TRef sig ⟨S128x100000, .i32⟩) (φ : fn_threefry2x32.Bufs) : List (Stmt F) :=
  cipher0 arg0 arg1 arg2 arg3 φ ++ cipher1 arg0 arg1 arg2 arg3 φ ++ cipher2 arg0 arg1 arg2 arg3 φ ++ cipher3 arg0 arg1 arg2 arg3 φ

/-- The uniform sample before its cipher: the two key words and the counter. -/
def uniform0 (arg0 : TRef sig ⟨S2, .i32⟩) (arg1 arg2 : TRef sig ⟨S_, .f32⟩) (φ : fn_uniform.Bufs) : List (Stmt F) :=
   [un arg1 φ.v0 id,
    un arg2 φ.v1 (broadcastInDim S1x1 ![] bcast_S_S1x1),
    un φ.v0 φ.v2 (broadcastInDim S1x1 ![] bcast_S_S1x1),
    un arg0 φ.v3 (extractStridedSlice S1 ![0] · slices_S2_S1_0),
    resh φ.v3 φ.v4 (rfl : (.i32 : EltTy) = .i32) shapeCasts_S1_S_,
    un arg0 φ.v5 (extractStridedSlice S1 ![1] · slices_S2_S1_1),
    resh φ.v5 φ.v6 (rfl : (.i32 : EltTy) = .i32) shapeCasts_S1_S_,
    nul φ.v7 (iotaInDim S128x100000 64 0),
    nul φ.v8 (iotaInDim S128x100000 64 1),
    nul φ.c (constantI S_ 64 100000#64),
    un φ.c φ.v9 spread,
    bin φ.v9 φ.v7 φ.v10 muli,
    nul φ.c_0 (constantI S_ 64 1#64),
    un φ.c_0 φ.v11 spread,
    bin φ.v11 φ.v8 φ.v12 muli,
    bin φ.v10 φ.v12 φ.v13 addi,
    nul φ.c_1 (constantI S_ 64 32#64),
    un φ.c_1 φ.v14 spread,
    bin φ.v13 φ.v14 φ.v15 Host.shrui,
    un φ.v13 φ.v16 (trunci 32 · natLt_32_64),
    un φ.v15 φ.v17 (trunci 32 · natLt_32_64)]

/-- The uniform sample after its cipher: the word made a float of the unit interval. -/
def uniform1 (φ : fn_uniform.Bufs) : List (Stmt F) :=
   [bin φ.call0.v171 φ.call0.v175 φ.v19 xori,
    nul φ.c_2 (constantI S_ 32 9#32),
    un φ.c_2 φ.v20 spread,
    bin φ.v19 φ.v20 φ.v21 Host.shrui,
    nul φ.c_3 (constantI S_ 32 1065353216#32),
    un φ.c_3 φ.v22 spread,
    bin φ.v21 φ.v22 φ.v23 ori,
    un φ.v23 φ.v24 (bitcastToFloat .f32),
    nul φ.cst (constant S_ .f32 0x3F800000#32),
    un φ.cst φ.v25 spread,
    bin φ.v24 φ.v25 φ.v26 subf,
    bin φ.v2 φ.v1 φ.v27 subf,
    un φ.v27 φ.v28 (broadcastInDim S128x100000 ![0, 1] bcast_S1x1_S128x100000_0_1),
    bin φ.v26 φ.v28 φ.v29 mulf,
    un φ.v1 φ.v30 (broadcastInDim S128x100000 ![0, 1] bcast_S1x1_S128x100000_0_1),
    bin φ.v29 φ.v30 φ.v31 addf,
    un φ.v1 φ.v32 (broadcastInDim S128x100000 ![0, 1] bcast_S1x1_S128x100000_0_1),
    bin φ.v32 φ.v31 φ.v33 maximumf]

/-- The uniform sample. -/
def uniform (arg0 : TRef sig ⟨S2, .i32⟩) (arg1 arg2 : TRef sig ⟨S_, .f32⟩) (φ : fn_uniform.Bufs) : List (Stmt F) :=
  uniform0 arg0 arg1 arg2 φ ++ cipher φ.v4 φ.v6 φ.v17 φ.v16 φ.call0 ++ uniform1 φ

/-- The Gumbel noise's constants, -/
def gumbel0 (φ : fn_gumbel.Bufs) : List (Stmt F) :=
   [nul φ.cst (constant S_ .f32 0x3F800000#32),
    nul φ.cst_0 (constant S_ .f32 0x00800000#32)]

/-- its two logarithms, -/
def gumbel1 (φ : fn_gumbel.Bufs) : List (Stmt F) :=
   [un φ.call0.v33 φ.v1 Host.log,
    un φ.v1 φ.v2 Host.negf,
    un φ.v2 φ.v3 Host.log,
    un φ.v3 φ.v4 Host.negf]

/-- and all of it. -/
def gumbel (arg0 : TRef sig ⟨S2, .i32⟩) (φ : fn_gumbel.Bufs) : List (Stmt F) :=
  gumbel0 φ ++ uniform arg0 φ.cst φ.cst_0 φ.call0 ++ gumbel1 φ

/-- The arg-max. -/
def argmax (arg0 : TRef sig ⟨S128x100000, .f32⟩) (φ : fn_argmax.Bufs) : List (Stmt F) :=
   [nul φ.v0 (iotaInDim S128x100000 32 1),
    nul φ.cst (constant S_ .f32 0xFF800000#32),
    nul φ.c (constantI S_ 32 0#32),
    quat arg0 φ.v0 φ.cst φ.c φ.v1_0 (fun x y u v j => (Host.argReduce reducer_argmax_f32_i32 x y u v reducesTo_S128x100000_S128_d1 h_S_ j).1),
    quat arg0 φ.v0 φ.cst φ.c φ.v1_1 (fun x y u v j => (Host.argReduce reducer_argmax_f32_i32 x y u v reducesTo_S128x100000_S128_d1 h_S_ j).2)]

/-- The key and the logits. -/
def main0 : List (Stmt F) :=
   [nul (.of main_c) (constantI S_ 32 42#32),
    nul (.of main_c_0) (constantI S_ 32 32#32),
    bin (.of main_c) (.of main_c_0) (.of main_v0) Host.shrui,
    un (.of main_v0) (.of main_v1) id,
    un (.of main_v1) (.of main_v2) (broadcastInDim S1 ![] bcast_S_S1 : (⟨S_, .i32⟩ : BufTy).Contents (Elt F) → (⟨S1, .i32⟩ : BufTy).Contents (Elt F)),
    nul (.of main_c_1) (constantI S_ 32 4294967295#32),
    bin (.of main_c) (.of main_c_1) (.of main_v3) andi,
    un (.of main_v3) (.of main_v4) id,
    un (.of main_v4) (.of main_v5) (broadcastInDim S1 ![] bcast_S_S1 : (⟨S_, .i32⟩ : BufTy).Contents (Elt F) → (⟨S1, .i32⟩ : BufTy).Contents (Elt F)),
    bin (.of main_v2) (.of main_v5) (.of main_v6) ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)),
    un (.of main_arg0) (.of main_v7) Host.log]

/-- The noisy logits. -/
def main1 : List (Stmt F) :=
   [bin (.of main_v8) (.of main_v7) (.of main_v9) addf]

/-- The one-hot matrix. -/
def main2 : List (Stmt F) :=
   [nul (.of main_cst) (constant S_ .f32 0x00000000#32),
    un (.of main_cst) (.of main_v11) (broadcastInDim S128x100000 ![] bcast_S_S128x100000 : (⟨S_, .f32⟩ : BufTy).Contents (Elt F) → (⟨S128x100000, .f32⟩ : BufTy).Contents (Elt F)),
    nul (.of main_v12) (iotaInDim S128 32 0),
    nul (.of main_c_2) (constantI S_ 32 0#32),
    un (.of main_c_2) (.of main_v13) (broadcastInDim S128 ![] bcast_S_S128 : (⟨S_, .i32⟩ : BufTy).Contents (Elt F) → (⟨S128, .i32⟩ : BufTy).Contents (Elt F)),
    bin (.of main_v12) (.of main_v13) (.of main_v14) (cmpi .slt),
    nul (.of main_c_3) (constantI S_ 32 128#32),
    un (.of main_c_3) (.of main_v15) (broadcastInDim S128 ![] bcast_S_S128 : (⟨S_, .i32⟩ : BufTy).Contents (Elt F) → (⟨S128, .i32⟩ : BufTy).Contents (Elt F)),
    bin (.of main_v12) (.of main_v15) (.of main_v16) addi,
    ter (.of main_v14) (.of main_v16) (.of main_v12) (.of main_v17) select,
    nul (.of main_c_4) (constantI S_ 32 0#32),
    un (.of main_c_4) (.of main_v18) (broadcastInDim S128 ![] bcast_S_S128 : (⟨S_, .i32⟩ : BufTy).Contents (Elt F) → (⟨S128, .i32⟩ : BufTy).Contents (Elt F)),
    bin (.of main_v10) (.of main_v18) (.of main_v19) (cmpi .slt),
    nul (.of main_c_5) (constantI S_ 32 100000#32),
    un (.of main_c_5) (.of main_v20) (broadcastInDim S128 ![] bcast_S_S128 : (⟨S_, .i32⟩ : BufTy).Contents (Elt F) → (⟨S128, .i32⟩ : BufTy).Contents (Elt F)),
    bin (.of main_v10) (.of main_v20) (.of main_v21) addi,
    ter (.of main_v19) (.of main_v21) (.of main_v10) (.of main_v22) select,
    un (.of main_v17) (.of main_v23) (broadcastInDim S128x1 ![0] bcast_S128_S128x1_0 : (⟨S128, .i32⟩ : BufTy).Contents (Elt F) → (⟨S128x1, .i32⟩ : BufTy).Contents (Elt F)),
    un (.of main_v22) (.of main_v24) (broadcastInDim S128x1 ![0] bcast_S128_S128x1_0 : (⟨S128, .i32⟩ : BufTy).Contents (Elt F) → (⟨S128x1, .i32⟩ : BufTy).Contents (Elt F)),
    bin (.of main_v23) (.of main_v24) (.of main_v25) ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    nul (.of main_cst_6) (constant S_ .f32 0x3F800000#32),
    un (.of main_cst_6) (.of main_v26) (broadcastInDim S128 ![] bcast_S_S128 : (⟨S_, .f32⟩ : BufTy).Contents (Elt F) → (⟨S128, .f32⟩ : BufTy).Contents (Elt F)),
    ter (.of main_v11) (.of main_v25) (.of main_v26) (.of main_v27) ((fun x i u => Host.scatter scatter_S128x100000_S128x2_S128_n_01_01_1 (fun _ b => b) x i u) : (⟨S128x100000, .f32⟩ : BufTy).Contents (Elt F) → (⟨S128x2, .i32⟩ : BufTy).Contents (Elt F) → (⟨S128, .f32⟩ : BufTy).Contents (Elt F) → (⟨S128x100000, .f32⟩ : BufTy).Contents (Elt F))]

/-- The whole program. -/
def whole : List (Stmt F) :=
  main0 ++ gumbel (.of main_v6) main_call0 ++ main1 ++ argmax (.of main_v9) main_call1 ++ main2

end Cert.ReferenceIdeal.Hand
-- ==== Proof.RefFns.lean ====
/-
  The reference's functions are the lines of RefText.lean.
-/
module

public import proofs.«01_k».proof.Proof.RefText

@[expose] public section

set_option maxRecDepth 16384

noncomputable section

namespace Cert.ReferenceIdeal.Hand

open Idealize.ShloMosaic Idealize.ShloMosaic.TcCoe Idealize.ShloMosaic.StableHlo Idealize.SL Idealize.SL.Sem
open Facts₀ Facts

variable {F : FTy → Type} [FloatOps F]

/-! ## The text is the program -/

/-- The reference's programs. -/
abbrev Text (F : FTy → Type) [FloatOps F] :=
  Prog (TpuEff nD τ sig (Elt F) (Pipeline.Sig Λ₀ (Fin 0) fun p => (pcfgs (F := F) p).Adm) .tc) PUnit

/-- The program is the line. -/
def IsLine (l : List (Stmt F)) (p : Text F) : Prop := p = seq (opsOf l)

theorem line_nil : IsLine (F := F) [] (pure ⟨⟩) := rfl

/-- A last operation. -/
theorem line_last {s : Stmt F} : IsLine [s] (hlo rfl s.op fun _ => .ret ⟨⟩) := rfl

/-- One operation more. -/
theorem line_cons {s : Stmt F} {p : Text F} {l : List (Stmt F)} (h : IsLine l p) :
    IsLine (s :: l) ((hlo rfl s.op fun _ => .ret (⟨⟩ : PUnit)) >>= fun _ => p) := by
  unfold IsLine at h; subst h; rfl

/-- A called function's line, and then a line. -/
theorem line_call {p q : Text F} {l l' : List (Stmt F)} (h : IsLine l p) (h' : IsLine l' q) :
    IsLine (l ++ l') (p >>= fun _ => q) := by
  unfold IsLine at h h' ⊢; subst h h'; rw [opsOf_append, seq_append]

section
variable (arg0 arg1 : TRef sig ⟨S_, .i32⟩) (arg2 arg3 : TRef sig ⟨S128x100000, .i32⟩) (φ : fn_threefry2x32.Bufs)

theorem cipher0_eq : IsLine (F := F) (cipher0 arg0 arg1 arg2 arg3 φ) (fn_threefry2x32.body_part0 arg0 arg1 arg2 arg3 φ) := by
  unfold fn_threefry2x32.body_part0
  simp only [cipher0, mix, inject, List.cons_append, List.nil_append]
  repeat (first | exact line_last (F := F) | refine line_cons (F := F) ?_)

theorem cipher1_eq : IsLine (F := F) (cipher1 arg0 arg1 arg2 arg3 φ) (fn_threefry2x32.body_part1 arg0 arg1 arg2 arg3 φ) := by
  unfold fn_threefry2x32.body_part1
  simp only [cipher1, mix, inject, List.cons_append, List.nil_append]
  repeat (first | exact line_last (F := F) | refine line_cons (F := F) ?_)

theorem cipher2_eq : IsLine (F := F) (cipher2 arg0 arg1 arg2 arg3 φ) (fn_threefry2x32.body_part2 arg0 arg1 arg2 arg3 φ) := by
  unfold fn_threefry2x32.body_part2
  simp only [cipher2, mix, inject, List.cons_append, List.nil_append]
  repeat (first | exact line_last (F := F) | refine line_cons (F := F) ?_)

theorem cipher3_eq : IsLine (F := F) (cipher3 arg0 arg1 arg2 arg3 φ) (fn_threefry2x32.body_part3 arg0 arg1 arg2 arg3 φ) := by
  unfold fn_threefry2x32.body_part3
  simp only [cipher3, mix, inject, List.cons_append, List.nil_append]
  repeat (first | exact line_nil (F := F) | refine line_cons (F := F) ?_)

theorem cipher_eq : IsLine (F := F) (cipher arg0 arg1 arg2 arg3 φ) (fn_threefry2x32.body arg0 arg1 arg2 arg3 φ) := by
  unfold fn_threefry2x32.body
  simp only [cipher, List.append_assoc]
  exact line_call (cipher0_eq ..) (line_call (cipher1_eq ..) (line_call (cipher2_eq ..) (cipher3_eq ..)))

end

theorem uniform_eq (arg0 : TRef sig ⟨S2, .i32⟩) (arg1 arg2 : TRef sig ⟨S_, .f32⟩) (φ : fn_uniform.Bufs) :
    IsLine (F := F) (uniform arg0 arg1 arg2 φ) (fn_uniform.body arg0 arg1 arg2 φ) := by
  unfold fn_uniform.body
  simp only [uniform, uniform0, uniform1, List.cons_append, List.nil_append, List.append_assoc]
  iterate 21 refine line_cons (F := F) ?_
  refine line_call (F := F) (cipher_eq ..) ?_
  iterate 18 refine line_cons (F := F) ?_
  exact line_nil

theorem gumbel_eq (arg0 : TRef sig ⟨S2, .i32⟩) (φ : fn_gumbel.Bufs) :
    IsLine (F := F) (gumbel arg0 φ) (fn_gumbel.body arg0 φ) := by
  unfold fn_gumbel.body
  simp only [gumbel, gumbel0, gumbel1, List.cons_append, List.nil_append, List.append_assoc]
  iterate 2 refine line_cons (F := F) ?_
  refine line_call (F := F) (uniform_eq ..) ?_
  iterate 4 refine line_cons (F := F) ?_
  exact line_nil

theorem argmax_eq (arg0 : TRef sig ⟨S128x100000, .f32⟩) (φ : fn_argmax.Bufs) :
    IsLine (F := F) (argmax arg0 φ) (fn_argmax.body arg0 φ) := by
  unfold fn_argmax.body
  simp only [argmax]
  repeat (first | exact line_nil (F := F) | refine line_cons (F := F) ?_)

end Cert.ReferenceIdeal.Hand
-- ==== Proof.RefRun.lean ====
/-
  The reference's run: its text is the straight line of RefText.lean, so at the end every buffer satisfies its own
  operation's equation.
-/
module

public import proofs.«01_k».proof.Proof.RefFns
public import Idealize.ShloMosaic.Lib.Quiescent

@[expose] public section

set_option maxRecDepth 16384

noncomputable section

namespace Cert.ReferenceIdeal.Hand

open Idealize.ShloMosaic Idealize.ShloMosaic.TcCoe Idealize.ShloMosaic.StableHlo Idealize.SL Idealize.SL.Sem
open Facts₀ Facts

variable {F : FTy → Type} [FloatOps F]

/-- An operation over references is the operation over them as typed references. -/
theorem ter_op (c a b y : Ref sig .tc) (f : c.ty.Contents (Elt F) → a.ty.Contents (Elt F) → b.ty.Contents (Elt F) → y.ty.Contents (Elt F))
    (hc hc' ha ha' hb hb' hy hy') :
    StableHlo.ternary c a b y f ⟨hc, hc'⟩ ⟨ha, ha'⟩ ⟨hb, hb'⟩ ⟨hy, hy'⟩
      = (ter (.of c rfl hc hc') (.of a rfl ha ha') (.of b rfl hb hb') (.of y rfl hy hy') f : Stmt F).op := rfl

/-- A last operation and the return. -/
theorem line_last' {s : Stmt F} {op : HloOp τ sig (Elt F)} (h : op = s.op) :
    IsLine [s] ((hlo rfl op fun _ => .ret (⟨⟩ : PUnit)) >>= fun _ => pure ⟨⟩) := by
  subst h; rfl

/-- The reference is its line. -/
theorem main_eq (c : Dev nD) : IsLine (F := F) whole (main c) := by
  unfold main
  simp only [whole, main0, main1, main2, List.cons_append, List.nil_append, List.append_assoc]
  iterate 11 refine line_cons (F := F) ?_
  refine line_call (gumbel_eq ..) ?_
  refine line_cons ?_
  refine line_call (argmax_eq ..) ?_
  iterate 22 refine line_cons (F := F) ?_
  exact line_last' (ter_op ..)

/-! ## The run -/

/-- The reference's buffers are numbered in the order they are written. -/
theorem climbs_whole : climbs 1 (numbers (whole (F := Ideal))) = true := by
  decide +kernel

/-- What the buffers of device `c` hold at the end, from the launch memory `m`. -/
def fin (m : (ℓ : Loc nD τ sig) → Buf (Elt Ideal) ℓ) (c : Dev nD) : Vals Ideal := after (opsOf whole) (launchContents m c)

/-- At the end every equation of the program holds. -/
theorem fin_solved (m : (ℓ : Loc nD τ sig) → Buf (Elt Ideal) ℓ) (c : Dev nD) : Solved whole (fin m c) :=
  after_solved _ 1 climbs_whole _

/-- The program's argument is as it was. -/
theorem fin_arg (m : (ℓ : Loc nD τ sig) → Buf (Elt Ideal) ℓ) (c : Dev nD) :
    fin m c (Proc.devRef .tc main_arg0) = m ((c : Thread nD τ).loc main_arg0) :=
  after_below _ 1 climbs_whole (by decide) _

/-- The reference runs: from any memory with zero counters it ends with its result at the final contents, its argument
    as it was and every counter at zero. -/
theorem run (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c : Thread nD τ).loc main_v27) = fin m c (Proc.devRef .tc main_v27)
        ∧ r.2.mem ((c : Thread nD τ).loc main_arg0) = m ((c : Thread nD τ).loc main_arg0)) ∧ r.2.sem = fun _ => 0 := by
  refine (θ_run defs _ _).mono (fun r h => ⟨fun c => ⟨h c main_v27, (h c main_arg0).trans (fin_arg m c)⟩, ?_⟩)
    (run_seq (by decide) (by decide) defs main (fun _ => opsOf whole) main_eq (fun _ => opsOf_bufs _) m ρ
      (fun _ => opsOf_fresh _))
  exact Idealize.ShloMosaic.sem_eq_zero_of_no_sems (by decide) r.2

end Cert.ReferenceIdeal.Hand
-- ==== Proof.Word.lean ====
/-
  The block cipher on one pair of words, and the reference's noisy logits lane by lane.
-/
module

public import proofs.«01_k».proof.Proof.RefRun
public import Idealize.ShloMosaic.Lib.Pipeline.Value

@[expose] public section

set_option maxRecDepth 16384

noncomputable section

namespace Cert.Word

open Idealize.ShloMosaic

/-- A round of the cipher: the first word added into the second, the second rotated and xor-ed in. -/
def turn (r r' : Nat) (w : BitVec 32 × BitVec 32) : BitVec 32 × BitVec 32 :=
  (w.1 + w.2, (w.1 + w.2) ^^^ ((w.2 <<< r) ||| (w.2 >>> r')))

/-- Four rounds with the first set of rotations. -/
def turnsA (w : BitVec 32 × BitVec 32) : BitVec 32 × BitVec 32 := turn 6 26 (turn 26 6 (turn 15 17 (turn 13 19 w)))

/-- Four rounds with the second set of rotations. -/
def turnsB (w : BitVec 32 × BitVec 32) : BitVec 32 × BitVec 32 := turn 24 8 (turn 16 16 (turn 29 3 (turn 17 15 w)))

/-- A key injected. -/
def put (k k' : BitVec 32) (n : Nat) (w : BitVec 32 × BitVec 32) : BitVec 32 × BitVec 32 :=
  (w.1 + k, w.2 + k' + BitVec.ofNat 32 n)

/-- The third key word. -/
def third (k k' : BitVec 32) : BitVec 32 := (k ^^^ k') ^^^ 466688986#32

/-- The cipher: twenty rounds, a key injected after every four. -/
def cipher (k k' : BitVec 32) (w : BitVec 32 × BitVec 32) : BitVec 32 × BitVec 32 :=
  put (third k k') k 5 (turnsA (put k' (third k k') 4 (turnsB (put k k' 3 (turnsA (put (third k k') k 2 (turnsB
    (put k' (third k k') 1 (turnsA (w.1 + k, w.2 + k'))))))))))

end Cert.Word

namespace Cert.ReferenceIdeal.Hand

open Idealize.ShloMosaic Idealize.ShloMosaic.TcCoe Idealize.ShloMosaic.StableHlo Cert.Word
open Facts₀ Facts

variable {F : FTy → Type} [FloatOps F] {V : Vals F}

theorem spread_apply {e : EltTy} (v : (⟨S_, e⟩ : BufTy).Contents (Elt F)) (k : Elt F e) (h : ∀ i, v i = k)
    (j : S128x100000.Idx) : spread (F := F) v j = k := h _

theorem host_shli_apply (x y : IVec S128x100000 32) (j : S128x100000.Idx) (r : Nat) (hr : r < 32)
    (hy : y j = BitVec.ofNat 32 r) : Host.shli x y j = x j <<< r := by
  have h : (BitVec.ofNat 32 r).toNat = r := by rw [BitVec.toNat_ofNat]; omega
  show IntOp.shli .host (x j) (y j) = _
  rw [hy, IntOp.shli, h, if_pos hr]
  show x j <<< (BitVec.ofNat 32 r).toNat = _
  rw [h]

theorem host_shrui_apply (x y : IVec S128x100000 32) (j : S128x100000.Idx) (r : Nat) (hr : r < 32)
    (hy : y j = BitVec.ofNat 32 r) : Host.shrui x y j = x j >>> r := by
  have h : (BitVec.ofNat 32 r).toNat = r := by rw [BitVec.toNat_ofNat]; omega
  show IntOp.shrui .host (x j) (y j) = _
  rw [hy, IntOp.shrui, h, if_pos hr]
  show x j >>> (BitVec.ofNat 32 r).toNat = _
  rw [h]

/-- The pair of words two buffers hold at a lane. -/
def pair (V : Vals F) (x y : TRef sig ⟨S128x100000, .i32⟩) (j : S128x100000.Idx) : BitVec 32 × BitVec 32 :=
  (val V x j, val V y j)

/-- An addition and the rest of a round. -/
theorem round_eq {x y z o : TRef sig ⟨S128x100000, .i32⟩} {c c' : TRef sig ⟨S_, .i32⟩}
    {b s b' s' t : TRef sig ⟨S128x100000, .i32⟩} {r r' : Nat} (hr : r < 32) (hr' : r' < 32)
    (h : (bin x y z addi : Stmt F).Holds V) (h' : Solved (mix z y c b s c' b' s' t o r r') V) (j : S128x100000.Idx) :
    pair V z o j = turn r r' (pair V x y j) := by
  simp only [mix, solved_cons] at h'
  obtain ⟨h1, h2, h3, h4, h5, h6, h7, h8, -⟩ := h'
  have e0 : val V z j = val V x j + val V y j := congrFun (holds_bin h) j
  have e1 : val V b j = BitVec.ofNat 32 r :=
    (congrFun (holds_un h2) j).trans (spread_apply _ _ (fun i => congrFun (holds_nul h1) i) j)
  have e2 : val V b' j = BitVec.ofNat 32 r' :=
    (congrFun (holds_un h5) j).trans (spread_apply _ _ (fun i => congrFun (holds_nul h4) i) j)
  have e3 : val V s j = val V y j <<< r := (congrFun (holds_bin h3) j).trans (host_shli_apply _ _ j r hr e1)
  have e4 : val V s' j = val V y j >>> r' := (congrFun (holds_bin h6) j).trans (host_shrui_apply _ _ j r' hr' e2)
  have e5 : val V t j = val V s j ||| val V s' j := congrFun (holds_bin h7) j
  have e6 : val V o j = val V z j ^^^ val V t j := congrFun (holds_bin h8) j
  simp only [pair, turn, e6, e5, e4, e3, e0]

/-- A key injection. -/
theorem inject_eq {k k' c : TRef sig ⟨S_, .i32⟩} {x y b x' b' t d y' : TRef sig ⟨S128x100000, .i32⟩} {n : Nat}
    {u u' : BitVec 32} (hu : ∀ i, val V k i = u) (hu' : ∀ i, val V k' i = u')
    (h : Solved (inject k k' x y b x' b' t c d y' n) V) (j : S128x100000.Idx) :
    pair V x' y' j = put u u' n (pair V x y j) := by
  simp only [inject, solved_cons] at h
  obtain ⟨h1, h2, h3, h4, h5, h6, h7, -⟩ := h
  have e1 : val V b j = u := (congrFun (holds_un h1) j).trans (spread_apply _ _ hu j)
  have e2 : val V x' j = val V x j + val V b j := congrFun (holds_bin h2) j
  have e3 : val V b' j = u' := (congrFun (holds_un h3) j).trans (spread_apply _ _ hu' j)
  have e4 : val V t j = val V y j + val V b' j := congrFun (holds_bin h4) j
  have e5 : val V d j = BitVec.ofNat 32 n :=
    (congrFun (holds_un h6) j).trans (spread_apply _ _ (fun i => congrFun (holds_nul h5) i) j)
  have e6 : val V y' j = val V t j + val V d j := congrFun (holds_bin h7) j
  simp only [pair, put, e6, e5, e4, e3, e2, e1]

/-- What the cipher's line leaves: at every lane the cipher of the counter's two words under the two key words. -/
theorem cipher_value {arg0 arg1 : TRef sig ⟨S_, .i32⟩} {arg2 arg3 : TRef sig ⟨S128x100000, .i32⟩} {φ : fn_threefry2x32.Bufs}
    {k k' : BitVec 32} (hk : ∀ i, val V arg0 i = k) (hk' : ∀ i, val V arg1 i = k')
    (h : Solved (cipher arg0 arg1 arg2 arg3 φ) V) (j : S128x100000.Idx) :
    pair V φ.v171 φ.v175 j = Word.cipher k k' (pair V arg2 arg3 j) := by
  simp only [Hand.cipher, cipher0, cipher1, cipher2, cipher3, solved_append, solved_cons (l := []), solved_nil, and_true, and_assoc] at h
  obtain ⟨a0, a1, a2, a3, a4, a5, a6, r1, m1, r2, m2, r3, m3, r4, m4, i1, r5, m5, r6, m6, r7, m7, r8, m8, i2,
    r9, m9, r10, m10, r11, m11, r12, m12, i3, r13, m13, r14, m14, r15, m15, r16, m16, i4,
    r17, m17, r18, m18, r19, m19, r20, m20, i5⟩ := h
  have k3 : ∀ i, val V φ.v1 i = third k k' := fun i => by
    have e0 : val V φ.v0 i = val V arg0 i ^^^ val V arg1 i := congrFun (holds_bin a0) i
    have e1 : val V φ.c i = 466688986#32 := congrFun (holds_nul a1) i
    have e2 : val V φ.v1 i = val V φ.v0 i ^^^ val V φ.c i := congrFun (holds_bin a2) i
    rw [e2, e1, e0, hk, hk', third]
  have s : pair V φ.v3 φ.v5 j = ((pair V arg2 arg3 j).1 + k, (pair V arg2 arg3 j).2 + k') := by
    have e3 : val V φ.v2 j = k := (congrFun (holds_un a3) j).trans (spread_apply _ _ hk j)
    have e4 : val V φ.v3 j = val V arg2 j + val V φ.v2 j := congrFun (holds_bin a4) j
    have e5 : val V φ.v4 j = k' := (congrFun (holds_un a5) j).trans (spread_apply _ _ hk' j)
    have e6 : val V φ.v5 j = val V arg3 j + val V φ.v4 j := congrFun (holds_bin a6) j
    simp only [pair, e6, e5, e4, e3]
  rw [inject_eq k3 hk i5, round_eq (by decide) (by decide) r20 m20, round_eq (by decide) (by decide) r19 m19,
    round_eq (by decide) (by decide) r18 m18, round_eq (by decide) (by decide) r17 m17,
    inject_eq hk' k3 i4, round_eq (by decide) (by decide) r16 m16, round_eq (by decide) (by decide) r15 m15,
    round_eq (by decide) (by decide) r14 m14, round_eq (by decide) (by decide) r13 m13,
    inject_eq hk hk' i3, round_eq (by decide) (by decide) r12 m12, round_eq (by decide) (by decide) r11 m11,
    round_eq (by decide) (by decide) r10 m10, round_eq (by decide) (by decide) r9 m9,
    inject_eq k3 hk i2, round_eq (by decide) (by decide) r8 m8, round_eq (by decide) (by decide) r7 m7,
    round_eq (by decide) (by decide) r6 m6, round_eq (by decide) (by decide) r5 m5,
    inject_eq hk' k3 i1, round_eq (by decide) (by decide) r4 m4, round_eq (by decide) (by decide) r3 m3,
    round_eq (by decide) (by decide) r2 m2, round_eq (by decide) (by decide) r1 m1, s]
  rfl

end Cert.ReferenceIdeal.Hand
-- ==== Proof.RefValue.lean ====
/-
  The reference's noisy logits lane by lane: the logarithm of the argument plus the noise that the lane's counter gives.
-/
module

public import proofs.«01_k».proof.Proof.Word
public import Idealize.ShloMosaic.Lib.Pointwise.SelectCore

@[expose] public section

set_option maxRecDepth 16384

noncomputable section

namespace Cert.Word

open Idealize.ShloMosaic

/-- The random word of a counter: the two words of its cipher under the key `(0, 42)`, xor-ed. -/
def bits (n : BitVec 32) : BitVec 32 := (cipher 0#32 42#32 (0#32, n)).1 ^^^ (cipher 0#32 42#32 (0#32, n)).2

/-- The float in the unit interval that a random word gives, kept at or above the least normal float. -/
def unit (b : BitVec 32) : EReal :=
  max (Ideal.ofBits .f32 0x00800000#32)
    ((Ideal.ofBits .f32 ((b >>> 9) ||| 1065353216#32) - Ideal.ofBits .f32 0x3F800000#32)
      * (Ideal.ofBits .f32 0x3F800000#32 - Ideal.ofBits .f32 0x00800000#32) + Ideal.ofBits .f32 0x00800000#32)

/-- The Gumbel noise of a random word. -/
def noise (b : BitVec 32) : EReal := -Ideal.log (-Ideal.log (unit b))

/-- The noisy logit of a probability at a counter. -/
def logit (x : EReal) (n : BitVec 32) : EReal := Ideal.log x + noise (bits n)

end Cert.Word

namespace Cert.ReferenceIdeal.Hand

open Idealize.ShloMosaic Idealize.ShloMosaic.TcCoe Idealize.ShloMosaic.StableHlo Cert.Word
open Facts₀ Facts

variable {V : Vals Ideal}

/-- The extended real a float buffer holds at an index. -/
def fl {s : Shape} (V : Vals Ideal) (x : TRef sig ⟨s, .f32⟩) (i : s.Idx) : EReal := val V x i

/-- The key: the words 0 and 42. -/
theorem key_value (h : Solved main0 V) (i : S2.Idx) :
    val V (.of main_v6) i = if (i 0).val = 0 then 0#32 else 42#32 := by
  simp only [main0, solved_cons] at h
  obtain ⟨h1, h2, h3, h4, h5, h6, h7, h8, h9, h10, -⟩ := h
  have e1 : ∀ i, val V (.of main_c) i = 42#32 := congrFun (holds_nul h1)
  have e2 : ∀ i, val V (.of main_c_0) i = 32#32 := congrFun (holds_nul h2)
  have e3 : ∀ i, val V (.of main_v0) i = 0#32 := fun i => by
    refine (congrFun (holds_bin h3) i).trans ?_
    show IntOp.shrui .host _ _ = _
    rw [e1, e2]; rfl
  have e4 : ∀ i, val V (.of main_v1) i = 0#32 := fun i => (congrFun (holds_un h4) i).trans (e3 i)
  have e5 : ∀ i, val V (.of main_v2) i = 0#32 := fun i => (congrFun (holds_un h5) i).trans (e4 _)
  have e6 : ∀ i, val V (.of main_c_1) i = 4294967295#32 := congrFun (holds_nul h6)
  have e7 : ∀ i, val V (.of main_v3) i = 42#32 := fun i => by
    refine (congrFun (holds_bin h7) i).trans ?_
    show IntOp.andi _ _ = _
    rw [e1, e6]; rfl
  have e8 : ∀ i, val V (.of main_v4) i = 42#32 := fun i => (congrFun (holds_un h8) i).trans (e7 i)
  have e9 : ∀ i, val V (.of main_v5) i = 42#32 := fun i => (congrFun (holds_un h9) i).trans (e8 _)
  have e10 := congrFun (holds_bin h10) i
  have s5 : val V (.of main_v2) = fun _ => 0#32 := funext e5
  have s9 : val V (.of main_v5) = fun _ => 42#32 := funext e9
  rw [s5, s9] at e10
  refine e10.trans ((concatenate_pair_apply _ _ _ _ _).trans ?_)
  by_cases hi : (i 0).val = 0
  · rw [dif_pos (by show (i 0).val < 1; omega), if_pos hi]
  · rw [dif_neg (by show ¬ (i 0).val < 1; omega), if_neg hi]

/-- The logits. -/
theorem log_value (h : Solved main0 V) (j : S128x100000.Idx) :
    fl V (.of main_v7) j = Ideal.log (fl V (.of main_arg0) j) := by
  simp only [main0, solved_cons] at h
  obtain ⟨h1, h2, h3, h4, h5, h6, h7, h8, h9, h10, h11, -⟩ := h
  exact congrFun (holds_un h11) j

/-- The counter of a lane: its number in row-major order. -/
def counter (j : S128x100000.Idx) : BitVec 32 := BitVec.ofNat 32 ((j 0).val * 100000 + (j 1).val)

/-- The two bounds of the interval, as the sampler holds them. -/
theorem bounds_value {arg0 : TRef sig ⟨S2, .i32⟩} {arg1 arg2 : TRef sig ⟨S_, .f32⟩} {φ : fn_uniform.Bufs}
    (h1 : ∀ i, fl V arg1 i = Ideal.ofBits .f32 0x3F800000#32) (h2 : ∀ i, fl V arg2 i = Ideal.ofBits .f32 0x00800000#32)
    (h : Solved (uniform0 arg0 arg1 arg2 φ) V) :
    (∀ i, fl V φ.v1 i = Ideal.ofBits .f32 0x00800000#32) ∧ ∀ i, fl V φ.v2 i = Ideal.ofBits .f32 0x3F800000#32 := by
  simp only [uniform0, solved_cons] at h
  obtain ⟨a1, a2, a3, a4, a5, a6, a7, a8, a9, a10, a11, a12, a13, a14, a15, a16, a17, a18, a19, a20, a21, -⟩ := h
  have u0 : ∀ i, fl V φ.v0 i = Ideal.ofBits .f32 0x3F800000#32 := fun i => (congrFun (holds_un a1) i).trans (h1 i)
  have u1 : ∀ i, fl V φ.v1 i = Ideal.ofBits .f32 0x00800000#32 := fun i => (congrFun (holds_un a2) i).trans (h2 _)
  have u2 : ∀ i, fl V φ.v2 i = Ideal.ofBits .f32 0x3F800000#32 := fun i => (congrFun (holds_un a3) i).trans (u0 _)
  exact ⟨u1, u2⟩

/-- The two key words the sampler takes out of its key. -/
theorem words_value {arg0 : TRef sig ⟨S2, .i32⟩} {arg1 arg2 : TRef sig ⟨S_, .f32⟩} {φ : fn_uniform.Bufs}
    (hk : ∀ i, val V arg0 i = if (i 0).val = 0 then 0#32 else 42#32)
    (h : Solved (uniform0 arg0 arg1 arg2 φ) V) : (∀ i, val V φ.v4 i = 0#32) ∧ ∀ i, val V φ.v6 i = 42#32 := by
  simp only [uniform0, solved_cons] at h
  obtain ⟨a1, a2, a3, a4, a5, a6, a7, a8, a9, a10, a11, a12, a13, a14, a15, a16, a17, a18, a19, a20, a21, -⟩ := h
  have u3 : ∀ i, val V φ.v3 i = 0#32 := fun i => by
    refine (congrFun (holds_un a4) i).trans ((hk _).trans (if_pos ?_))
    have := (i 0).isLt
    show 0 + (i 0).val = 0
    have : (i 0).val < 1 := this
    omega
  have u4 : ∀ i, val V φ.v4 i = 0#32 := fun i => by
    have e := congrFun (holds_resh (s := S1) (t := S_) (e := .i32) (x := φ.v3) (y := φ.v4) a5) i
    rw [show val V φ.v3 = fun _ => 0#32 from funext u3] at e
    exact e
  have u5 : ∀ i, val V φ.v5 i = 42#32 := fun i => by
    refine (congrFun (holds_un a6) i).trans ((hk _).trans (if_neg ?_))
    show ¬ 1 + (i 0).val = 0
    omega
  have u6 : ∀ i, val V φ.v6 i = 42#32 := fun i => by
    have e := congrFun (holds_resh (s := S1) (t := S_) (e := .i32) (x := φ.v5) (y := φ.v6) a7) i
    rw [show val V φ.v5 = fun _ => 42#32 from funext u5] at e
    exact e
  exact ⟨u4, u6⟩

/-- The two words of the lane's counter. -/
theorem counter_value {arg0 : TRef sig ⟨S2, .i32⟩} {arg1 arg2 : TRef sig ⟨S_, .f32⟩} {φ : fn_uniform.Bufs}
    (h : Solved (uniform0 arg0 arg1 arg2 φ) V) (j : S128x100000.Idx) :
    pair V φ.v17 φ.v16 j = (0#32, counter j) := by
  simp only [uniform0, solved_cons] at h
  obtain ⟨a1, a2, a3, a4, a5, a6, a7, a8, a9, a10, a11, a12, a13, a14, a15, a16, a17, a18, a19, a20, a21, -⟩ := h
  have d0 : (j 0).val < 128 := (j 0).isLt
  have d1 : (j 1).val < 100000 := (j 1).isLt
  have u7 : val V φ.v7 j = BitVec.ofNat 64 (j 0).val := congrFun (holds_nul a8) j
  have u8 : val V φ.v8 j = BitVec.ofNat 64 (j 1).val := congrFun (holds_nul a9) j
  have u9 : val V φ.v9 j = 100000#64 :=
    (congrFun (holds_un a11) j).trans (spread_apply _ _ (fun i => congrFun (holds_nul a10) i) j)
  have u10 : val V φ.v10 j = val V φ.v9 j * val V φ.v7 j := congrFun (holds_bin a12) j
  have u11 : val V φ.v11 j = 1#64 :=
    (congrFun (holds_un a14) j).trans (spread_apply _ _ (fun i => congrFun (holds_nul a13) i) j)
  have u12 : val V φ.v12 j = val V φ.v11 j * val V φ.v8 j := congrFun (holds_bin a15) j
  have u13 : val V φ.v13 j = val V φ.v10 j + val V φ.v12 j := congrFun (holds_bin a16) j
  have u14 : val V φ.v14 j = 32#64 :=
    (congrFun (holds_un a18) j).trans (spread_apply _ _ (fun i => congrFun (holds_nul a17) i) j)
  have n13 : val V φ.v13 j = BitVec.ofNat 64 ((j 0).val * 100000 + (j 1).val) := by
    rw [u13, u10, u12, u11, u9, u8, u7]
    apply BitVec.eq_of_toNat_eq
    simp only [BitVec.toNat_add, BitVec.toNat_mul, BitVec.toNat_ofNat]
    omega
  have u15 : val V φ.v15 j = 0#64 := by
    refine (congrFun (holds_bin a19) j).trans ?_
    show IntOp.shrui .host (val V φ.v13 j) (val V φ.v14 j) = _
    rw [u14, n13, IntOp.shrui, if_pos (by decide)]
    apply BitVec.eq_of_toNat_eq
    show (BitVec.ofNat 64 ((j 0).val * 100000 + (j 1).val) >>> 32).toNat = 0
    rw [BitVec.toNat_ushiftRight, BitVec.toNat_ofNat, Nat.shiftRight_eq_div_pow, Nat.mod_eq_of_lt (by omega)]
    exact Nat.div_eq_of_lt (by omega)
  have u16 : val V φ.v16 j = counter j := by
    refine (congrFun (holds_un a20) j).trans ?_
    show (val V φ.v13 j).setWidth 32 = _
    rw [n13, counter]
    apply BitVec.eq_of_toNat_eq
    simp only [BitVec.toNat_setWidth, BitVec.toNat_ofNat]
    omega
  have u17 : val V φ.v17 j = 0#32 := by
    refine (congrFun (holds_un a21) j).trans ?_
    show (val V φ.v15 j).setWidth 32 = _
    rw [u15]; rfl
  rw [pair, u16, u17]

/-- The word made a float of the interval. -/
theorem unit_value {φ : fn_uniform.Bufs} (u1 : ∀ i, fl V φ.v1 i = Ideal.ofBits .f32 0x00800000#32)
    (u2 : ∀ i, fl V φ.v2 i = Ideal.ofBits .f32 0x3F800000#32) (h : Solved (uniform1 φ) V) (j : S128x100000.Idx) :
    fl V φ.v33 j = unit ((pair V φ.call0.v171 φ.call0.v175 j).1 ^^^ (pair V φ.call0.v171 φ.call0.v175 j).2) := by
  simp only [uniform1, solved_cons] at h
  obtain ⟨b1, b2, b3, b4, b5, b6, b7, b8, b9, b10, b11, b12, b13, b14, b15, b16, b17, b18, -⟩ := h
  have w19 : val V φ.v19 j = (pair V φ.call0.v171 φ.call0.v175 j).1 ^^^ (pair V φ.call0.v171 φ.call0.v175 j).2 :=
    congrFun (holds_bin b1) j
  have w20 : val V φ.v20 j = BitVec.ofNat 32 9 :=
    (congrFun (holds_un b3) j).trans (spread_apply _ _ (fun i => congrFun (holds_nul b2) i) j)
  have w21 : val V φ.v21 j = val V φ.v19 j >>> 9 :=
    (congrFun (holds_bin b4) j).trans (host_shrui_apply _ _ j 9 (by decide) w20)
  have w22 : val V φ.v22 j = 1065353216#32 :=
    (congrFun (holds_un b6) j).trans (spread_apply _ _ (fun i => congrFun (holds_nul b5) i) j)
  have w23 : val V φ.v23 j = val V φ.v21 j ||| val V φ.v22 j := congrFun (holds_bin b7) j
  have w24 : fl V φ.v24 j = Ideal.ofBits .f32 (val V φ.v23 j) := congrFun (holds_un b8) j
  have w25 : fl V φ.v25 j = Ideal.ofBits .f32 0x3F800000#32 :=
    (congrFun (holds_un b10) j).trans (spread_apply _ _ (fun i => congrFun (holds_nul b9) i) j)
  have w26 : fl V φ.v26 j = fl V φ.v24 j - fl V φ.v25 j := congrFun (holds_bin b11) j
  have w27 : ∀ i, fl V φ.v27 i = Ideal.ofBits .f32 0x3F800000#32 - Ideal.ofBits .f32 0x00800000#32 := fun i => by
    refine (congrFun (holds_bin b12) i).trans ?_
    show fl V φ.v2 i - fl V φ.v1 i = _
    rw [u2, u1]
  have w28 : fl V φ.v28 j = Ideal.ofBits .f32 0x3F800000#32 - Ideal.ofBits .f32 0x00800000#32 :=
    (congrFun (holds_un b13) j).trans (w27 _)
  have w29 : fl V φ.v29 j = fl V φ.v26 j * fl V φ.v28 j := congrFun (holds_bin b14) j
  have w30 : fl V φ.v30 j = Ideal.ofBits .f32 0x00800000#32 := (congrFun (holds_un b15) j).trans (u1 _)
  have w31 : fl V φ.v31 j = fl V φ.v29 j + fl V φ.v30 j := congrFun (holds_bin b16) j
  have w32 : fl V φ.v32 j = Ideal.ofBits .f32 0x00800000#32 := (congrFun (holds_un b17) j).trans (u1 _)
  have w33 : fl V φ.v33 j = max (fl V φ.v32 j) (fl V φ.v31 j) := congrFun (holds_bin b18) j
  rw [w33, w32, w31, w30, w29, w28, w26, w25, w24, w23, w22, w21, w19, unit]

/-- What the uniform sampler's line leaves. -/
theorem uniform_value {arg0 : TRef sig ⟨S2, .i32⟩} {arg1 arg2 : TRef sig ⟨S_, .f32⟩} {φ : fn_uniform.Bufs}
    (hk : ∀ i, val V arg0 i = if (i 0).val = 0 then 0#32 else 42#32)
    (h1 : ∀ i, fl V arg1 i = Ideal.ofBits .f32 0x3F800000#32) (h2 : ∀ i, fl V arg2 i = Ideal.ofBits .f32 0x00800000#32)
    (h : Solved (uniform arg0 arg1 arg2 φ) V) (j : S128x100000.Idx) : fl V φ.v33 j = unit (bits (counter j)) := by
  simp only [uniform, solved_append, and_assoc] at h
  obtain ⟨h0, hc, h1'⟩ := h
  have hb := bounds_value h1 h2 h0
  have hw := words_value hk h0
  have e := unit_value hb.1 hb.2 h1' j
  rw [cipher_value hw.1 hw.2 hc j, counter_value h0 j] at e
  exact e

/-- What the noise's line leaves. -/
theorem gumbel_value {arg0 : TRef sig ⟨S2, .i32⟩} {φ : fn_gumbel.Bufs}
    (hk : ∀ i, val V arg0 i = if (i 0).val = 0 then 0#32 else 42#32)
    (h : Solved (gumbel arg0 φ) V) (j : S128x100000.Idx) : fl V φ.v4 j = noise (bits (counter j)) := by
  simp only [gumbel, gumbel0, gumbel1, solved_append, solved_cons (l := []), solved_cons, solved_nil, and_true, and_assoc] at h
  obtain ⟨a1, a2, hu, b1, b2, b3, b4⟩ := h
  have e0 := uniform_value hk (congrFun (holds_nul a1)) (congrFun (holds_nul a2)) hu j
  have e1 : fl V φ.v1 j = Ideal.log (fl V φ.call0.v33 j) := congrFun (holds_un b1) j
  have e2 : fl V φ.v2 j = (-(fl V φ.v1 j)) := congrFun (holds_un b2) j
  have e3 : fl V φ.v3 j = Ideal.log (fl V φ.v2 j) := congrFun (holds_un b3) j
  have e4 : fl V φ.v4 j = (-(fl V φ.v3 j)) := congrFun (holds_un b4) j
  rw [e4, e3, e2, e1, e0, noise]

/-- The noisy logits. -/
theorem logit_value (h : Solved whole V) (j : S128x100000.Idx) :
    fl V (.of main_v9) j = logit (fl V (.of main_arg0) j) (counter j) := by
  simp only [whole, solved_append, and_assoc] at h
  obtain ⟨h0, hg, h1, -, -⟩ := h
  have e8 : fl V (.of main_v8) j = noise (bits (counter j)) := gumbel_value (key_value h0) hg j
  have e7 := log_value h0 j
  simp only [main1, solved_cons] at h1
  have e9 : fl V (.of main_v9) j = (fl V (.of main_v8) j + fl V (.of main_v7) j) := congrFun (holds_bin h1.1) j
  rw [e9, e8, e7, logit, add_comm]

end Cert.ReferenceIdeal.Hand
-- ==== Proof.KerLane.lean ====
/-
  The kernel's noisy logits lane by lane: the same words and the same reals as the reference's, masked past the last
  column.
-/
module

public import proofs.«01_k».proof.Proof.RunIdeal
public import proofs.«01_k».proof.Proof.RefValue

@[expose] public section

set_option maxRecDepth 16384

noncomputable section

namespace Cert.KernelIdeal.Hand

open Cert.KernelIdeal Cert.KernelIdeal.Gen
open Idealize.ShloMosaic Idealize.ShloMosaic.TcCoe
open Cert.Word

/-- The number of a lane among all of the matrix's, as the block's words give it. -/
def lane (a : BitVec 32) (j : S128x1024.Idx) : BitVec 32 := BitVec.ofNat 32 (j 0).val * 100000#32 + k0_pay8 a j

theorem shl_apply (y : IVec S128x1024 32) (r : Nat) (hr : r < 32) (j : S128x1024.Idx) :
    shli y (broadcast S128x1024 (BitVec.ofNat 32 r)) j = y j <<< r := by
  have h : (BitVec.ofNat 32 r).toNat = r := by rw [BitVec.toNat_ofNat]; omega
  show IntOp.shli .vector (y j) (BitVec.ofNat 32 r) = _
  rw [IntOp.shli, h, if_pos hr]
  show y j <<< (BitVec.ofNat 32 r).toNat = _
  rw [h]

theorem shr_apply (y : IVec S128x1024 32) (r : Nat) (hr : r < 32) (j : S128x1024.Idx) :
    shrui y (broadcast S128x1024 (BitVec.ofNat 32 r)) j = y j >>> r := by
  have h : (BitVec.ofNat 32 r).toNat = r := by rw [BitVec.toNat_ofNat]; omega
  show IntOp.shrui .vector (y j) (BitVec.ofNat 32 r) = _
  rw [IntOp.shrui, h, if_pos hr]
  show y j >>> (BitVec.ofNat 32 r).toNat = _
  rw [h]

/-- The second word of a round, `z` standing for the sum of the two words before it. -/
def mixed (y z : IVec S128x1024 32) (r r' : Nat) : IVec S128x1024 32 :=
  xori z (ori (shli y (broadcast S128x1024 (BitVec.ofNat 32 r))) (shrui y (broadcast S128x1024 (BitVec.ofNat 32 r'))))

/-- A round, on vectors. -/
theorem vturn (x y z o : IVec S128x1024 32) (r r' : Nat) (hr : r < 32) (hr' : r' < 32) (hz : z = addi x y)
    (ho : o = mixed y z r r') (j : S128x1024.Idx) : turn r r' (x j, y j) = (z j, o j) := by
  rw [ho, hz]
  show _ = (x j + y j, (x j + y j) ^^^ (shli y (broadcast S128x1024 (BitVec.ofNat 32 r)) j
    ||| shrui y (broadcast S128x1024 (BitVec.ofNat 32 r')) j))
  rw [shl_apply y r hr, shr_apply y r' hr', turn]

/-- A round and a key injection, on vectors. -/
theorem vput (x y z o : IVec S128x1024 32) (r r' : Nat) (k k' : BitVec 32) (n : Nat) (hr : r < 32) (hr' : r' < 32)
    (hz : z = addi x y)
    (ho : o = addi (addi (mixed y z r r') (broadcast S128x1024 k')) (broadcast S128x1024 (BitVec.ofNat 32 n)))
    (j : S128x1024.Idx) : put k k' n (turn r r' (x j, y j)) = (z j + k, o j) := by
  rw [vturn x y z _ r r' hr hr' hz rfl, ho, put]
  rfl

/-- The first four rounds up to the third. -/
theorem rounds_first (a : BitVec 32) (j : S128x1024.Idx) :
    turn 26 6 (turn 15 17 (turn 13 19 (0#32 + 0#32, lane a j + 42#32))) = (k0_pay14 a j, k0_pay15 a j) := by
  have e0 : k0_pay9 a j = lane a j + 42#32 := by
    show (BitVec.ofNat 32 (0 * 128 + (j 0).val) * 100000#32 + k0_pay8 a j) + 42#32 = _
    rw [Nat.zero_mul, Nat.zero_add, lane]
  have e1 : turn 13 19 (0#32 + 0#32, k0_pay9 a j) = (k0_pay10 a j, k0_pay11 a j) :=
      vturn (broadcast S128x1024 (0#32 + 0#32)) (k0_pay9 a) (k0_pay10 a) (k0_pay11 a) 13 19 (by decide) (by decide) rfl rfl j
  have e2 : turn 15 17 (k0_pay10 a j, k0_pay11 a j) = (k0_pay12 a j, k0_pay13 a j) :=
      vturn (k0_pay10 a) (k0_pay11 a) (k0_pay12 a) (k0_pay13 a) 15 17 (by decide) (by decide) rfl rfl j
  have e3 : turn 26 6 (k0_pay12 a j, k0_pay13 a j) = (k0_pay14 a j, k0_pay15 a j) :=
      vturn (k0_pay12 a) (k0_pay13 a) (k0_pay14 a) (k0_pay15 a) 26 6 (by decide) (by decide) rfl rfl j
  rw [← e0, e1, e2, e3]

/-- The rounds from there to the second key injection. -/
theorem rounds_second (a : BitVec 32) (j : S128x1024.Idx) (x y z : IVec S128x1024 32)
    (hx : x = k0_pay15 a) (hy : y = k0_pay16 a) (hz : z = k0_pay17 a) :
    put key2 0#32 2 (turnsB (put 42#32 key2 1 (turn 6 26 (k0_pay14 a j, k0_pay15 a j))))
      = (k0_pay25 key2 x y z j + key2, k0_pay26 key2 x y z j) := by
  have e1 : put 42#32 key2 1 (turn 6 26 (k0_pay14 a j, k0_pay15 a j)) = (y j + 42#32, k0_pay18 key2 x y z j) :=
      by
    rw [hx, hy, hz]
    exact vput (k0_pay14 a) (k0_pay15 a) (k0_pay16 a) (k0_pay18 key2 (k0_pay15 a) (k0_pay16 a) (k0_pay17 a)) 6 26 42#32 key2 1 (by decide) (by decide) rfl rfl j
  have e2 : turn 17 15 (y j + 42#32, k0_pay18 key2 x y z j) = (k0_pay19 key2 x y z j, k0_pay20 key2 x y z j) :=
      vturn (addi y (broadcast S128x1024 42#32)) (k0_pay18 key2 x y z) (k0_pay19 key2 x y z) (k0_pay20 key2 x y z) 17 15 (by decide) (by decide) rfl rfl j
  have e3 : turn 29 3 (k0_pay19 key2 x y z j, k0_pay20 key2 x y z j) = (k0_pay21 key2 x y z j, k0_pay22 key2 x y z j) :=
      vturn (k0_pay19 key2 x y z) (k0_pay20 key2 x y z) (k0_pay21 key2 x y z) (k0_pay22 key2 x y z) 29 3 (by decide) (by decide) rfl rfl j
  have e4 : turn 16 16 (k0_pay21 key2 x y z j, k0_pay22 key2 x y z j) = (k0_pay23 key2 x y z j, k0_pay24 key2 x y z j) :=
      vturn (k0_pay21 key2 x y z) (k0_pay22 key2 x y z) (k0_pay23 key2 x y z) (k0_pay24 key2 x y z) 16 16 (by decide) (by decide) rfl rfl j
  have e5 : put key2 0#32 2 (turn 24 8 (k0_pay23 key2 x y z j, k0_pay24 key2 x y z j))
      = (k0_pay25 key2 x y z j + key2, k0_pay26 key2 x y z j) :=
      vput (k0_pay23 key2 x y z) (k0_pay24 key2 x y z) (k0_pay25 key2 x y z) (k0_pay26 key2 x y z) 24 8 key2 0#32 2 (by decide) (by decide) rfl rfl j
  rw [e1, turnsB, e2, e3, e4, e5]

/-- The rounds from there to the middle of the fourth four. -/
theorem rounds_third (j : S128x1024.Idx) (w x y z : IVec S128x1024 32) (hy : ∀ j, y j = w j + x j) (hz : z = k0_pay28) :
    turn 29 3 (turn 17 15 (put 0#32 42#32 3 (turnsA (w j, x j)))) = (k0_pay38 x y z j, k0_pay39 x y z j) := by
  have e1 : turn 13 19 (w j, x j) = (y j, k0_pay29 x y z j) :=
      by
    rw [hz]
    exact vturn w x y (k0_pay29 x y k0_pay28) 13 19 (by decide) (by decide) (funext hy) rfl j
  have e2 : turn 15 17 (y j, k0_pay29 x y z j) = (k0_pay30 x y z j, k0_pay31 x y z j) :=
      vturn y (k0_pay29 x y z) (k0_pay30 x y z) (k0_pay31 x y z) 15 17 (by decide) (by decide) rfl rfl j
  have e3 : turn 26 6 (k0_pay30 x y z j, k0_pay31 x y z j) = (k0_pay32 x y z j, k0_pay33 x y z j) :=
      vturn (k0_pay30 x y z) (k0_pay31 x y z) (k0_pay32 x y z) (k0_pay33 x y z) 26 6 (by decide) (by decide) rfl rfl j
  have e4 : put 0#32 42#32 3 (turn 6 26 (k0_pay32 x y z j, k0_pay33 x y z j)) = (k0_pay34 x y z j + 0#32, k0_pay35 x y z j) :=
      vput (k0_pay32 x y z) (k0_pay33 x y z) (k0_pay34 x y z) (k0_pay35 x y z) 6 26 0#32 42#32 3 (by decide) (by decide) rfl rfl j
  have e5 : turn 17 15 (k0_pay34 x y z j + 0#32, k0_pay35 x y z j) = (k0_pay36 x y z j, k0_pay37 x y z j) :=
      vturn (addi (k0_pay34 x y z) (broadcast S128x1024 0#32)) (k0_pay35 x y z) (k0_pay36 x y z) (k0_pay37 x y z) 17 15 (by decide) (by decide) rfl rfl j
  have e6 : turn 29 3 (k0_pay36 x y z j, k0_pay37 x y z j) = (k0_pay38 x y z j, k0_pay39 x y z j) :=
      vturn (k0_pay36 x y z) (k0_pay37 x y z) (k0_pay38 x y z) (k0_pay39 x y z) 29 3 (by decide) (by decide) rfl rfl j
  rw [turnsA, e1, e2, e3, e4, e5, e6]

/-- The rounds from there to the last. -/
theorem rounds_fourth (j : S128x1024.Idx) (x y : IVec S128x1024 32) :
    put key2 0#32 5 (turnsA (put 42#32 key2 4 (turn 24 8 (turn 16 16 (x j, y j)))))
      = (k0_pay50 key2 x y j + key2,
          (k0_pay50 key2 x y j ^^^ (k0_pay51 key2 x y j ||| k0_pay52 key2 x y j)) + 0#32 + 5#32) := by
  have e1 : turn 16 16 (x j, y j) = (k0_pay40 x y j, k0_pay41 x y j) :=
      vturn x y (k0_pay40 x y) (k0_pay41 x y) 16 16 (by decide) (by decide) rfl rfl j
  have e2 : put 42#32 key2 4 (turn 24 8 (k0_pay40 x y j, k0_pay41 x y j)) = (k0_pay42 x y j + 42#32, k0_pay43 key2 x y j) :=
      vput (k0_pay40 x y) (k0_pay41 x y) (k0_pay42 x y) (k0_pay43 key2 x y) 24 8 42#32 key2 4 (by decide) (by decide) rfl rfl j
  have e3 : turn 13 19 (k0_pay42 x y j + 42#32, k0_pay43 key2 x y j) = (k0_pay44 key2 x y j, k0_pay45 key2 x y j) :=
      vturn (addi (k0_pay42 x y) (broadcast S128x1024 42#32)) (k0_pay43 key2 x y) (k0_pay44 key2 x y) (k0_pay45 key2 x y) 13 19 (by decide) (by decide) rfl rfl j
  have e4 : turn 15 17 (k0_pay44 key2 x y j, k0_pay45 key2 x y j) = (k0_pay46 key2 x y j, k0_pay47 key2 x y j) :=
      vturn (k0_pay44 key2 x y) (k0_pay45 key2 x y) (k0_pay46 key2 x y) (k0_pay47 key2 x y) 15 17 (by decide) (by decide) rfl rfl j
  have e5 : turn 26 6 (k0_pay46 key2 x y j, k0_pay47 key2 x y j) = (k0_pay48 key2 x y j, k0_pay49 key2 x y j) :=
      vturn (k0_pay46 key2 x y) (k0_pay47 key2 x y) (k0_pay48 key2 x y) (k0_pay49 key2 x y) 26 6 (by decide) (by decide) rfl rfl j
  have e6 : put key2 0#32 5 (turn 6 26 (k0_pay48 key2 x y j, k0_pay49 key2 x y j)) = (k0_pay50 key2 x y j + key2,
          (k0_pay50 key2 x y j ^^^ (k0_pay51 key2 x y j ||| k0_pay52 key2 x y j)) + 0#32 + 5#32) :=
      vput (k0_pay48 key2 x y) (k0_pay49 key2 x y) (k0_pay50 key2 x y) (addi (addi (xori (k0_pay50 key2 x y) (ori (k0_pay51 key2 x y) (k0_pay52 key2 x y))) (broadcast S128x1024 0#32)) (broadcast S128x1024 5#32)) 6 26 key2 0#32 5 (by decide) (by decide) rfl rfl j
  rw [turnsA, e1, e2, e3, e4, e5, e6]

/-- The cipher of the lane's number. -/
theorem cipher_lane (i : grid0.Coords) (j : S128x1024.Idx) :
    Word.cipher 0#32 42#32 (0#32, lane (pt i) j) = (u183 i j + key2, (u183 i j ^^^ (u185 i j ||| u187 i j)) + 0#32 + 5#32) := by
  have h3 : third 0#32 42#32 = key2 := rfl
  have a1 : turnsA (0#32 + 0#32, lane (pt i) j + 42#32) = turn 6 26 (k0_pay14 (pt i) j, k0_pay15 (pt i) j) :=
    congrArg (turn 6 26) (rounds_first (pt i) j)
  have b2 : ∀ w, turnsB w = turn 24 8 (turn 16 16 (turn 29 3 (turn 17 15 w))) := fun w => rfl
  have s2 := rounds_second (pt i) j _ _ _ rfl rfl rfl
  have s3 := rounds_third j (addi (k0_pay25 key2 (k0_pay15 (pt i)) (k0_pay16 (pt i)) (k0_pay17 (pt i)))
    (broadcast S128x1024 key2)) (u93 i) (u94 i) k0_pay28 (fun j => rfl) rfl
  have s3' : turn 29 3 (turn 17 15 (put 0#32 42#32 3 (turnsA
      (k0_pay25 key2 (k0_pay15 (pt i)) (k0_pay16 (pt i)) (k0_pay17 (pt i)) j + key2,
        k0_pay26 key2 (k0_pay15 (pt i)) (k0_pay16 (pt i)) (k0_pay17 (pt i)) j)))) = (u135 i j, u141 i j) := s3
  have s4 := rounds_fourth j (u135 i) (u141 i)
  rw [Word.cipher, h3]
  change put key2 0#32 5 (turnsA (put 42#32 key2 4 (turnsB (put 0#32 42#32 3 (turnsA (put key2 0#32 2 (turnsB
    (put 42#32 key2 1 (turnsA (0#32 + 0#32, lane (pt i) j + 42#32)))))))))) = _
  rw [a1, s2, b2, s3', s4]
  rfl

/-- The uniform sample of a random word, on vectors. -/
def vunit (W : IVec S128x1024 32) : FVec Ideal S128x1024 .f32 :=
  maximumf (broadcast S128x1024 (Scalar.ofBits .f32 0x00800000#32))
    (addf (mulf (subf (bitcastToFloat .f32 (ori (shrui W (broadcast S128x1024 9#32)) (broadcast S128x1024 1065353216#32)))
        (broadcast S128x1024 (Scalar.ofBits .f32 0x3F800000#32)))
      (broadcast S128x1024 (Scalar.subf (Scalar.ofBits .f32 0x3F800000#32) (Scalar.ofBits .f32 0x00800000#32))))
      (broadcast S128x1024 (Scalar.ofBits .f32 0x00800000#32)))

theorem vunit_apply (W : IVec S128x1024 32) (j : S128x1024.Idx) : vunit W j = unit (W j) := by
  have h : shrui W (broadcast S128x1024 9#32) j = W j >>> 9 := shr_apply W 9 (by decide) j
  show (max (Ideal.ofBits .f32 0x00800000#32) ((Ideal.ofBits .f32 (shrui W (broadcast S128x1024 9#32) j ||| 1065353216#32)
    - Ideal.ofBits .f32 0x3F800000#32) * (Ideal.ofBits .f32 0x3F800000#32 - Ideal.ofBits .f32 0x00800000#32)
      + Ideal.ofBits .f32 0x00800000#32) : EReal) = _
  rw [h, unit]

/-- The noise of a uniform sample, on vectors. -/
def vnoise (U : FVec Ideal S128x1024 .f32) : FVec Ideal S128x1024 .f32 :=
  subf (broadcast S128x1024 (Scalar.ofBits .f32 0x00000000#32))
    (log (subf (broadcast S128x1024 (Scalar.ofBits .f32 0x00000000#32)) (log U)))

theorem vnoise_apply (U : FVec Ideal S128x1024 .f32) (j : S128x1024.Idx) :
    vnoise U j = -Ideal.log (-Ideal.log (U j)) := by
  have hz : Ideal.ofBits .f32 0x00000000#32 = 0 := by simp [Ideal.ofBits, Ideal.ieee]
  show (Ideal.ofBits .f32 0x00000000#32 - Ideal.log (Ideal.ofBits .f32 0x00000000#32 - Ideal.log (U j)) : EReal) = _
  rw [hz, zero_sub, zero_sub]

/-- The masked noisy logits of a block. -/
abbrev masked (i : grid0.Coords) (X : S128x1024.Idx → Elt Ideal .f32) : FVec Ideal S128x1024 .f32 :=
  k0_pay53 (F := Ideal) (k0_pay8 (pt i)) key2 (u183 i) (u185 i) (u187 i) X

/-- The random word of a lane, on vectors. -/
def vbits (i : grid0.Coords) : IVec S128x1024 32 :=
  xori (addi (u183 i) (broadcast S128x1024 key2))
    (addi (addi (xori (u183 i) (ori (u185 i) (u187 i))) (broadcast S128x1024 0#32)) (broadcast S128x1024 5#32))

theorem vbits_apply (i : grid0.Coords) (j : S128x1024.Idx) : vbits i j = bits (lane (pt i) j) := by
  rw [bits, cipher_lane]
  rfl

/-- The masked noisy logit of a lane. -/
theorem masked_apply (i : grid0.Coords) (X : S128x1024.Idx → Elt Ideal .f32) (j : S128x1024.Idx) :
    masked i X j = if IntOp.cmpi .slt (k0_pay8 (pt i) j) 100000#32 = 1#1 then logit (X j) (lane (pt i) j) else ⊥ := by
  have hn : Ideal.ofBits .f32 0xFF800000#32 = ⊥ := by simp [Ideal.ofBits, Ideal.ieee]
  have key : masked i X = select (cmpi .slt (k0_pay8 (pt i)) (broadcast S128x1024 100000#32))
      (addf (log X) (vnoise (vunit (vbits i)))) (broadcast S128x1024 (Scalar.ofBits .f32 0xFF800000#32)) := rfl
  rw [key]
  show (if IntOp.cmpi .slt (k0_pay8 (pt i) j) 100000#32 = 1#1 then
    (Ideal.log (X j) + vnoise (vunit (vbits i)) j : EReal) else Ideal.ofBits .f32 0xFF800000#32) = _
  rw [hn, vnoise_apply, vunit_apply, vbits_apply]
  rfl

end Cert.KernelIdeal.Hand
-- ==== Proof.Pick.lean ====
/-
  Folds that pick one of their operands, and the first index of a maximum: the two descriptions of an arg-max that the
  kernel's scan and the reference's reduction are brought to.
-/
module

public import Mathlib.Data.EReal.Basic
public import Mathlib.Data.Finset.Fold
public import Mathlib.Tactic.Linarith

@[expose] public section

namespace Cert.Pick

variable {α ι κ : Type} [LinearOrder κ]

/-- An operation that gives one of its two operands, one whose key is least. -/
def Picks (key : α → κ) (f : α → α → α) : Prop :=
  ∀ a b, (f a b = a ∧ key a ≤ key b) ∨ (f a b = b ∧ key b ≤ key a)

/-- A list's fold by such an operation is the start or a member, and no key is below its own. -/
theorem foldl_pick {key : α → κ} {f : α → α → α} (hf : Picks key f) (l : List α) (a : α) :
    (l.foldl f a = a ∨ l.foldl f a ∈ l) ∧ key (l.foldl f a) ≤ key a ∧ ∀ x ∈ l, key (l.foldl f a) ≤ key x := by
  induction l generalizing a with
  | nil => simp
  | cons y l ih =>
    obtain ⟨h1, h2, h3⟩ := ih (f a y)
    simp only [List.foldl_cons, List.mem_cons]
    rcases hf a y with ⟨e, h⟩ | ⟨e, h⟩ <;> rw [e] at h1 h2 h3 ⊢
    · refine ⟨?_, h2, ?_⟩
      · rcases h1 with h1 | h1
        · exact .inl h1
        · exact .inr (.inr h1)
      · rintro x (rfl | hx)
        · exact h2.trans h
        · exact h3 x hx
    · refine ⟨?_, h2.trans h, ?_⟩
      · rcases h1 with h1 | h1
        · exact .inr (.inl h1)
        · exact .inr (.inr h1)
      · rintro x (rfl | hx)
        · exact h2
        · exact h3 x hx

/-- The same of a fold over a finite set. -/
theorem fold_pick {key : α → κ} {op : α → α → α} [Std.Commutative op] [Std.Associative op] (hf : Picks key op) (b : α)
    (g : ι → α) (s : Finset ι) : (s.fold op b g = b ∨ ∃ x ∈ s, s.fold op b g = g x) ∧ key (s.fold op b g) ≤ key b
      ∧ ∀ x ∈ s, key (s.fold op b g) ≤ key (g x) := by
  classical
  induction s using Finset.induction_on with
  | empty => simp
  | insert y s hy ih =>
    obtain ⟨h1, h2, h3⟩ := ih
    rw [Finset.fold_insert hy]
    rcases hf (g y) (s.fold op b g) with ⟨e, h⟩ | ⟨e, h⟩ <;> rw [e]
    · refine ⟨.inr ⟨y, Finset.mem_insert_self _ _, rfl⟩, h.trans h2, fun x hx => ?_⟩
      rcases Finset.mem_insert.1 hx with rfl | hx
      · exact le_rfl
      · exact h.trans (h3 x hx)
    · refine ⟨?_, h2, fun x hx => ?_⟩
      · rcases h1 with h1 | ⟨x, hx, h1⟩
        · exact .inl h1
        · exact .inr ⟨x, Finset.mem_insert_of_mem hx, h1⟩
      · rcases Finset.mem_insert.1 hx with rfl | hx
        · exact h
        · exact h3 x hx

/-- `M` is the greatest of `f 0 … f (n - 1)` and of `⊥`, and `k` the first index at which it stands, 0 if none does. -/
def First (f : ℕ → EReal) (n : ℕ) (M : EReal) (k : ℕ) : Prop :=
  (∀ c < n, f c ≤ M) ∧ ((M = ⊥ ∧ k = 0) ∨ (k < n ∧ f k = M ∧ ∀ c < k, f c < M))

theorem First.zero (f : ℕ → EReal) : First f 0 ⊥ 0 := ⟨fun c h => absurd h (Nat.not_lt_zero c), .inl ⟨rfl, rfl⟩⟩

/-- There is one such index. -/
theorem First.unique {f : ℕ → EReal} {n : ℕ} {M M' : EReal} {k k' : ℕ} (h : First f n M k) (h' : First f n M' k') :
    k = k' := by
  obtain ⟨hb, hk⟩ := h
  obtain ⟨hb', hk'⟩ := h'
  rcases hk with ⟨rfl, rfl⟩ | ⟨hn, he, hl⟩ <;> rcases hk' with ⟨rfl, rfl⟩ | ⟨hn', he', hl'⟩
  · rfl
  · by_contra hne
    have := hl' 0 (by omega)
    have h2 := hb k' hn'
    rw [he'] at h2
    exact absurd (lt_of_lt_of_le this h2) not_lt_bot
  · by_contra hne
    have := hl 0 (by omega)
    have h2 := hb' k hn
    rw [he] at h2
    exact absurd (lt_of_lt_of_le this h2) not_lt_bot
  · have e : M = M' := le_antisymm (he ▸ hb' k hn) (he' ▸ hb k' hn')
    subst e
    rcases Nat.lt_trichotomy k k' with h | h | h
    · exact absurd (hl' k h) (by rw [he]; exact lt_irrefl _)
    · exact h
    · exact absurd (hl k' h) (by rw [he']; exact lt_irrefl _)

/-- One more block: its greatest `B` and the first index `q` at which `B` stands in it replace the running pair where
    `B` is greater. -/
theorem First.step {f : ℕ → EReal} {n w : ℕ} {M B : EReal} {k q : ℕ} (h : First f n M k)
    (hB : ∀ c, n ≤ c → c < n + w → f c ≤ B) (hB' : B = ⊥ ∨ ∃ c, n ≤ c ∧ c < n + w ∧ f c = B)
    (hq : (∃ c, n ≤ c ∧ c < n + w ∧ f c = B) → n ≤ q ∧ q < n + w ∧ f q = B ∧ ∀ c, n ≤ c → c < q → f c ≠ B) :
    First f (n + w) (if M < B then B else M) (if M < B then q else k) := by
  obtain ⟨hb, hk⟩ := h
  by_cases hlt : M < B
  · rw [if_pos hlt, if_pos hlt]
    have hne : B ≠ ⊥ := fun e => not_lt_bot (e ▸ hlt)
    obtain ⟨q1, q2, q3, q4⟩ := hq (hB'.resolve_left hne)
    refine ⟨fun c hc => ?_, .inr ⟨q2, q3, fun c hc => ?_⟩⟩
    · rcases Nat.lt_or_ge c n with h | h
      · exact (hb c h).trans hlt.le
      · exact hB c h hc
    · rcases Nat.lt_or_ge c n with h | h
      · exact lt_of_le_of_lt (hb c h) hlt
      · exact lt_of_le_of_ne (hB c h (by omega)) (q4 c h hc)
  · rw [if_neg hlt, if_neg hlt]
    refine ⟨fun c hc => ?_, ?_⟩
    · rcases Nat.lt_or_ge c n with h | h
      · exact hb c h
      · exact (hB c h hc).trans (not_lt.1 hlt)
    · rcases hk with hk | ⟨h1, h2⟩
      · exact .inl hk
      · exact .inr ⟨by omega, h2⟩

/-- Indices past `n` at which only `⊥` stands change nothing. -/
theorem First.extend {f : ℕ → EReal} {n n' : ℕ} (hn : n ≤ n') {M : EReal} {k : ℕ} (h : First f n M k)
    (hf : ∀ c, n ≤ c → f c = ⊥) : First f n' M k := by
  obtain ⟨hb, hk⟩ := h
  refine ⟨fun c hc => ?_, ?_⟩
  · rcases Nat.lt_or_ge c n with h | h
    · exact hb c h
    · rw [hf c h]; exact bot_le
  · rcases hk with hk | ⟨h1, h2⟩
    · exact .inl hk
    · exact .inr ⟨by omega, h2⟩

end Cert.Pick
-- ==== Proof.Score.lean ====
/-
  The row of noisy logits whose first greatest column both programs look for.
-/
module

public import proofs.«01_k».proof.Proof.Pick
public import proofs.«01_k».proof.Proof.RefValue

@[expose] public section

noncomputable section

namespace Cert.Word

open Idealize.ShloMosaic

/-- The noisy logit at column `n` of row `r` of the matrix `A` of probabilities, `⊥` past the last column. -/
def score (A : (⟨2, ![128, 100000]⟩ : Shape).Idx → EReal) (r : Fin 128) (n : ℕ) : EReal :=
  if h : n < 100000 then logit (A (ValueIdx.ix2 r ⟨n, h⟩)) (BitVec.ofNat 32 (r.val * 100000 + n)) else ⊥

theorem score_past (A : (⟨2, ![128, 100000]⟩ : Shape).Idx → EReal) (r : Fin 128) (n : ℕ) (h : 100000 ≤ n) :
    score A r n = ⊥ := dif_neg (by omega)

end Cert.Word
-- ==== Proof.KerScan.lean ====
/-
  The kernel's scan: before each point the running pair of a row is the greatest noisy logit of the columns seen and the
  first column where it stands.
-/
module

public import proofs.«01_k».proof.Proof.KerLane
public import proofs.«01_k».proof.Proof.Score
public import Idealize.ShloMosaic.PureOps.Reduce
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe
open Cert.Word Cert.Pick

/-! ## The two row reductions -/

/-- A lane drops to its row. -/
theorem drop_lane (j : S128x1024.Idx) : reduces_S128x1024_S128.drop j = ValueIdx.ix1 (j 0) := by
  funext a
  match a with
  | ⟨0, _⟩ => exact Fin.ext rfl

/-- A column vector's entry is its source's. -/
theorem column_apply {α : Type} (x : S128.Idx → α) (r : Fin 128) :
    shapeCast S128x1 x shapeCasts_S128_S128x1 (rowIx r) = x (ValueIdx.ix1 r) := by
  refine shapeCast_apply x _ _ _ ?_
  rw [Shape.rowMajor_val_two, Shape.rowMajor_val_one]
  show r.val = r.val * 1 + 0
  omega

theorem same_apply {α : Type} (x : S128x1.Idx → α) (j : S128x1.Idx) :
    shapeCast S128x1 x shapeCasts_S128x1_S128x1 j = x j := shapeCast_apply x _ _ _ rfl

theorem max_picks : Picks (fun x : EReal => OrderDual.toDual x) (max : EReal → EReal → EReal) := by
  intro a b
  rcases le_total b a with h | h
  · exact .inl ⟨max_eq_left h, OrderDual.toDual_le_toDual.2 h⟩
  · exact .inr ⟨max_eq_right h, OrderDual.toDual_le_toDual.2 h⟩

theorem min_picks : Picks (fun x : BitVec 32 => x.toInt) IntOp.minsi := by
  intro a b
  rw [IntOp.minsi, BitVec.slt_eq_decide]
  by_cases h : a.toInt < b.toInt
  · exact .inl ⟨if_pos (decide_eq_true h), h.le⟩
  · exact .inr ⟨if_neg (by simpa using h), not_lt.1 h⟩

/-- The row maximum bounds its row and, unless it is `⊥`, stands in it. -/
theorem rowmax (X : FVec Ideal S128x1024 .f32) (r : Fin 128) (B : EReal)
    (hB : shapeCast S128x1 (multiReduction .maximumf [1] S128 X 0xFF800000#32 reduces_S128x1024_S128 (.inl rfl) rfl)
      shapeCasts_S128_S128x1 (rowIx r) = B) :
    (∀ q : Fin 1024, (X (ValueIdx.ix2 r q) : EReal) ≤ B) ∧ (B = ⊥ ∨ ∃ q : Fin 1024, X (ValueIdx.ix2 r q) = B) := by
  have hn : (FloatOps.ofBits .f32 0xFF800000#32 : Ideal .f32) = (⊥ : EReal) := by
    show Ideal.ofBits .f32 0xFF800000#32 = ⊥
    simp [Ideal.ofBits, Ideal.ieee]
  rw [column_apply] at hB
  replace hB := (multiReduction_maximumf_eq_fold X _ _ _ _ _).symm.trans hB
  rw [hn] at hB
  obtain ⟨h1, -, h3⟩ := fold_pick (op := FloatOps.maximumf (F := Ideal) (φ := .f32)) max_picks (⊥ : EReal) X
    (Finset.univ.filter fun i => reduces_S128x1024_S128.drop i = ValueIdx.ix1 r)
  rw [hB] at h1 h3
  refine ⟨fun q => OrderDual.toDual_le_toDual.1 (h3 (ValueIdx.ix2 r q) ?_), ?_⟩
  · rw [Finset.mem_filter, drop_lane]
    exact ⟨Finset.mem_univ _, rfl⟩
  · rcases h1 with h1 | ⟨j, hj, h1⟩
    · exact .inl h1
    · rw [Finset.mem_filter, drop_lane] at hj
      have e : j 0 = r := congrFun hj.2 0
      exact .inr ⟨j 1, (congrArg X ((congrArg (fun r => ValueIdx.ix2 r (j 1)) e.symm).trans (ValueIdx.eq_ix2 j).symm)).trans h1.symm⟩

/-- The row minimum bounds its row and, unless it is the largest word, stands in it. -/
theorem rowmin (X : IVec S128x1024 32) (r : Fin 128) (B : BitVec 32)
    (hB : shapeCast S128x1 (multiReductionI .minsi [1] S128 X 2147483647#32 reduces_S128x1024_S128 rfl)
      shapeCasts_S128_S128x1 (rowIx r) = B) :
    (∀ q : Fin 1024, B.toInt ≤ (X (ValueIdx.ix2 r q)).toInt) ∧ (B = 2147483647#32 ∨ ∃ q : Fin 1024, X (ValueIdx.ix2 r q) = B) := by
  rw [column_apply] at hB
  replace hB := (multiReductionI_eq_fold .minsi X _ _ _ _).symm.trans hB
  obtain ⟨h1, -, h3⟩ := fold_pick (op := IKind.minsi.op) min_picks 2147483647#32 X
    (Finset.univ.filter fun i => reduces_S128x1024_S128.drop i = ValueIdx.ix1 r)
  rw [hB] at h1 h3
  refine ⟨fun q => h3 (ValueIdx.ix2 r q) ?_, ?_⟩
  · rw [Finset.mem_filter, drop_lane]
    exact ⟨Finset.mem_univ _, rfl⟩
  · rcases h1 with h1 | ⟨j, hj, h1⟩
    · exact .inl h1
    · rw [Finset.mem_filter, drop_lane] at hj
      have e : j 0 = r := congrFun hj.2 0
      exact .inr ⟨j 1, (congrArg X ((congrArg (fun r => ValueIdx.ix2 r (j 1)) e.symm).trans (ValueIdx.eq_ix2 j).symm)).trans h1.symm⟩

/-! ## A block's lanes -/

variable (m : (loc : Loc nD τ sig) → Buf (Elt Ideal) loc)

/-- The input on core `c`. -/
abbrev input (c : Dev nD) : S128x100000.Idx → EReal := m ((c : Thread nD τ).loc main_arg0)

/-- The block of a scan point at a lane inside the array. -/
theorem xb_apply (c : Dev nD) (t : Fin cfg0.N) (ht : t.val < 98) (r : Fin 128) (q : Fin 1024)
    (hq : 1024 * t.val + q.val < 100000) : xb m c t (ValueIdx.ix2 r q) = input m c (ValueIdx.ix2 r ⟨1024 * t.val + q.val, hq⟩) := by
  have hx := xsize0 t
  have hm : win0_0.moved (grid0.coords t) (ValueIdx.ix2 r q) = true := (win0_0.moved_iff _ _).mpr fun a => by
    match a with
    | ⟨0, _⟩ => exact lt_of_lt_of_eq r.isLt hx.1.symm
    | ⟨1, _⟩ => exact lt_of_lt_of_eq (by have := q.isLt; omega : q.val < min 1024 (100000 - 1024 * t.val)) (hx.2 ht).1.symm
  unfold xb Pipeline.Window.fill
  rw [dif_pos hm]
  show m ((c : Thread nD τ).loc main_arg0) ((win0_0.rect t).emb _) = _
  refine congrArg (m ((c : Thread nD τ).loc main_arg0)) (funext fun a => Fin.ext ?_)
  match a with
  | ⟨0, _⟩ =>
    show win0_0.index t 0 * win0_0.size 0 + 1 * r.val = r.val
    rw [(hx.2 ht).2.1]; omega
  | ⟨1, _⟩ =>
    show win0_0.index t 1 * win0_0.size 1 + 1 * q.val = 1024 * t.val + q.val
    rw [(hx.2 ht).2.2]; omega

/-- The masked noisy logits of a scan point's block are the row's scores. -/
theorem masked_score (c : Dev nD) (t : Fin cfg0.N) (ht : t.val < 98) (r : Fin 128) (q : Fin 1024) :
    masked (grid0.coords t) (xb m c t) (ValueIdx.ix2 r q) = score (input m c) r (1024 * t.val + q.val) := by
  have hc : (k0_pay8 (pt (grid0.coords t)) (ValueIdx.ix2 r q)).toNat = 1024 * t.val + q.val := col_toNat t (ValueIdx.ix2 r q) ht
  have hq := q.isLt
  have hr := r.isLt
  rw [masked_apply]
  by_cases h : 1024 * t.val + q.val < 100000
  · rw [if_pos ((slt_iff _ (by omega)).2 (by omega)), xb_apply m c t ht r q h, score, dif_pos h]
    congr 1
    apply BitVec.eq_of_toNat_eq
    rw [lane, BitVec.toNat_add, BitVec.toNat_mul, hc, BitVec.toNat_ofNat, BitVec.toNat_ofNat, BitVec.toNat_ofNat]
    show (r.val % 2 ^ 32 * (100000 % 2 ^ 32) % 2 ^ 32 + (1024 * t.val + q.val)) % 2 ^ 32 = _
    omega
  · rw [if_neg (fun e => h (by have := (slt_iff _ (by omega)).1 e; omega)), score_past _ _ _ (by omega)]

/-- The candidates of a scan point's block. -/
theorem bcand_apply (i : grid0.Coords) (X : S128x1024.Idx → Elt Ideal .f32) (r : Fin 128) (q : Fin 1024) :
    bcand i X (ValueIdx.ix2 r q) = if masked i X (ValueIdx.ix2 r q) = bmax i X (rowIx r) then k0_pay8 (pt i) (ValueIdx.ix2 r q) else 2147483647#32 := by
  have key : bcand i X = select (cmpf .oeq (masked i X) (broadcastTo S128x1024 (bmax i X) broadcasts_S128x1_S128x1024))
      (k0_pay8 (pt i)) (broadcast S128x1024 2147483647#32) := rfl
  have hb : broadcastTo S128x1024 (bmax i X) broadcasts_S128x1_S128x1024 (ValueIdx.ix2 r q) = bmax i X (rowIx r) :=
    broadcastTo_apply _ broadcasts_S128x1_S128x1024 (ValueIdx.ix2 r q) (rowIx r) (fun a => by
      match a with
      | ⟨0, _⟩ => rfl
      | ⟨1, _⟩ => rfl)
  rw [key]
  show (if Ideal.cmp .oeq (masked i X (ValueIdx.ix2 r q))
    (broadcastTo S128x1024 (bmax i X) broadcasts_S128x1_S128x1024 (ValueIdx.ix2 r q)) = 1#1 then
      k0_pay8 (pt i) (ValueIdx.ix2 r q) else 2147483647#32) = _
  rw [hb]
  refine if_congr ?_ rfl rfl
  show BitVec.ofBool (decide (masked i X (ValueIdx.ix2 r q) = bmax i X (rowIx r))) = 1#1 ↔ _
  by_cases h : masked i X (ValueIdx.ix2 r q) = bmax i X (rowIx r)
  · simp [h]
  · simp [h]

/-- A scan point's step on a row: the block's maximum `B` and first column from `C` against the running pair. -/
theorem next_apply (B : FVec Ideal S128x1 .f32) (C : IVec S128x1024 32) (A : S128x1.Idx → Elt Ideal .f32)
    (J : S128x1.Idx → Elt Ideal .i32) (r : Fin 128) (a b : EReal) (k : BitVec 32) (ha : A (rowIx r) = a)
    (hb : B (rowIx r) = b)
    (hk : shapeCast S128x1 (multiReductionI .minsi [1] S128 C 2147483647#32 reduces_S128x1024_S128 rfl)
      shapeCasts_S128_S128x1 (rowIx r) = k) :
    k0_pay5 B A A (rowIx r) = (if a < b then b else a) ∧ k0_pay4 B C A J (rowIx r) = if a < b then k else J (rowIx r) := by
  have hc : k0_pay3 B A (rowIx r) = 1#1 ↔ a < b := by
    show BitVec.ofBool (decide ((A (rowIx r) : EReal) < B (rowIx r))) = 1#1 ↔ _
    rw [ha, hb]
    by_cases h : a < b
    · simp [h]
    · simp [h]
  constructor
  · unfold k0_pay5
    rw [same_apply, select, Scalar.select, ha, hb]
    exact if_congr hc rfl rfl
  · unfold k0_pay4
    rw [same_apply, select, Scalar.select, hk]
    exact if_congr hc rfl rfl

/-- The first column of a block at which the row's maximum stands. -/
theorem first_col (c : Dev nD) (t : Fin cfg0.N) (ht : t.val < 98) (r : Fin 128) (B : EReal)
    (hB : bmax (grid0.coords t) (xb m c t) (rowIx r) = B) (J : BitVec 32)
    (hJ : shapeCast S128x1 (multiReductionI .minsi [1] S128 (bcand (grid0.coords t) (xb m c t)) 2147483647#32
      reduces_S128x1024_S128 rfl) shapeCasts_S128_S128x1 (rowIx r) = J)
    (he : ∃ n, 1024 * t.val ≤ n ∧ n < 1024 * t.val + 1024 ∧ score (input m c) r n = B) :
    1024 * t.val ≤ J.toNat ∧ J.toNat < 1024 * t.val + 1024 ∧ score (input m c) r J.toNat = B
      ∧ ∀ n, 1024 * t.val ≤ n → n < J.toNat → score (input m c) r n ≠ B := by
  have hcol : ∀ q : Fin 1024, (k0_pay8 (pt (grid0.coords t)) (ValueIdx.ix2 r q)).toNat = 1024 * t.val + q.val :=
    fun q => col_toNat t (ValueIdx.ix2 r q) ht
  have hint : ∀ q : Fin 1024, (k0_pay8 (pt (grid0.coords t)) (ValueIdx.ix2 r q)).toInt = 1024 * t.val + q.val := fun q => by
    have := q.isLt
    rw [BitVec.toInt_eq_toNat_of_lt (by rw [hcol]; omega), hcol]; push_cast; ring
  have hcand : ∀ q : Fin 1024, bcand (grid0.coords t) (xb m c t) (ValueIdx.ix2 r q)
      = if score (input m c) r (1024 * t.val + q.val) = B then k0_pay8 (pt (grid0.coords t)) (ValueIdx.ix2 r q)
        else 2147483647#32 := fun q => by
    rw [bcand_apply, hB, masked_score m c t ht]
  obtain ⟨hle, hat⟩ := rowmin _ r J hJ
  obtain ⟨n, h1, h2, h3⟩ := he
  have hq : ∀ n, (h1 : 1024 * t.val ≤ n) → (h2 : n < 1024 * t.val + 1024) → score (input m c) r n = B → J.toInt ≤ n := by
    intro n h1 h2 h3
    obtain ⟨q, rfl⟩ : ∃ q : Fin 1024, n = 1024 * t.val + q.val := ⟨⟨n - 1024 * t.val, by omega⟩, by
      show n = 1024 * t.val + (n - 1024 * t.val); omega⟩
    have h := hle q
    rw [hcand, if_pos h3, hint] at h
    exact_mod_cast h
  have hJn := hq n h1 h2 h3
  have hmax : (2147483647#32).toInt = 2147483647 := by decide
  have hin : ∃ q : Fin 1024, score (input m c) r (1024 * t.val + q.val) = B
      ∧ k0_pay8 (pt (grid0.coords t)) (ValueIdx.ix2 r q) = J := by
    rcases hat with rfl | ⟨q, hq⟩
    · rw [hmax] at hJn; omega
    · rw [hcand] at hq
      by_cases h : score (input m c) r (1024 * t.val + q.val) = B
      · rw [if_pos h] at hq
        exact ⟨q, h, hq⟩
      · rw [if_neg h] at hq
        rw [← hq, hmax] at hJn; omega
  obtain ⟨q, hs, rfl⟩ := hin
  have hql := q.isLt
  rw [hcol]
  refine ⟨by omega, by omega, hs, fun n h1 h2 h3 => ?_⟩
  have := hq n h1 (by omega) h3
  rw [hint] at this
  omega

/-- The running pair before point `n`. -/
theorem acc_first (c : Dev nD) (r : Fin 128) (n : ℕ) (hn : n ≤ 98) :
    First (score (input m c) r) (1024 * n) ((acc m c n).1 (rowIx r)) (BitVec.toNat ((acc m c n).2 (rowIx r))) := by
  induction n with
  | zero =>
    have e1 : (acc m c 0).1 (rowIx r) = (⊥ : EReal) := by
      show shapeCast S128x1 (broadcast S128x1 (Scalar.ofBits .f32 0xFF800000#32)) shapeCasts_S128x1_S128x1 (rowIx r) = _
      rw [same_apply]
      show Ideal.ofBits .f32 0xFF800000#32 = ⊥
      simp [Ideal.ofBits, Ideal.ieee]
    have e2 : (acc m c 0).2 (rowIx r) = 0#32 := by
      show shapeCast S128x1 (broadcast S128x1 0#32) shapeCasts_S128x1_S128x1 (rowIx r) = _
      rw [same_apply]; rfl
    rw [e1, e2]
    exact First.zero _
  | succ n ih =>
    have hN : n < cfg0.N := lt_of_lt_of_eq (by omega : n < 196) N_0.symm
    have ht : (⟨n, hN⟩ : Fin cfg0.N).val < 98 := by show n < 98; omega
    have hs := acc_scan m c ⟨n, hN⟩ ht
    have hs' : acc m c (n + 1) = (nextMax (grid0.coords ⟨n, hN⟩) (xb m c ⟨n, hN⟩) (acc m c n).1,
      nextIdx (grid0.coords ⟨n, hN⟩) (xb m c ⟨n, hN⟩) (acc m c n).1 (acc m c n).2) := hs
    have ih := ih (by omega)
    generalize hB : bmax (grid0.coords ⟨n, hN⟩) (xb m c ⟨n, hN⟩) (rowIx r) = B
    generalize hJ : shapeCast S128x1 (multiReductionI .minsi [1] S128 (bcand (grid0.coords ⟨n, hN⟩) (xb m c ⟨n, hN⟩))
      2147483647#32 reduces_S128x1024_S128 rfl) shapeCasts_S128_S128x1 (rowIx r) = J
    generalize ha : (acc m c n).1 (rowIx r) = a at ih
    generalize hb : (acc m c n).2 (rowIx r) = b at ih
    obtain ⟨e1, e2⟩ := next_apply (bmax (grid0.coords ⟨n, hN⟩) (xb m c ⟨n, hN⟩))
      (bcand (grid0.coords ⟨n, hN⟩) (xb m c ⟨n, hN⟩)) (acc m c n).1 (acc m c n).2 r a B J ha hB hJ
    rw [hb] at e2
    obtain ⟨hle, hat⟩ := rowmax (masked (grid0.coords ⟨n, hN⟩) (xb m c ⟨n, hN⟩)) r B hB
    have hsc : ∀ q : Fin 1024, masked (grid0.coords ⟨n, hN⟩) (xb m c ⟨n, hN⟩) (ValueIdx.ix2 r q)
      = score (input m c) r (1024 * n + q.val) := masked_score m c ⟨n, hN⟩ ht r
    have g1 : (acc m c (n + 1)).1 = k0_pay5 (bmax (grid0.coords ⟨n, hN⟩) (xb m c ⟨n, hN⟩)) (acc m c n).1 (acc m c n).1 := by
      rw [hs', nextMax]
    have g2 : (acc m c (n + 1)).2 = k0_pay4 (bmax (grid0.coords ⟨n, hN⟩) (xb m c ⟨n, hN⟩))
        (bcand (grid0.coords ⟨n, hN⟩) (xb m c ⟨n, hN⟩)) (acc m c n).1 (acc m c n).2 := by
      rw [hs', nextIdx]
    rw [g1, g2, e1, e2, apply_ite BitVec.toNat, Nat.mul_add, Nat.mul_one]
    refine First.step (n := 1024 * n) (w := 1024) ih (fun k h1 h2 => ?_) (hat.imp_right fun ⟨q, hq⟩ => ⟨1024 * n + q.val, by omega, by
      have := q.isLt; omega, (hsc q).symm.trans hq⟩) (fun he => first_col m c ⟨n, hN⟩ ht r B hB J hJ he)
    obtain ⟨q, rfl⟩ : ∃ q : Fin 1024, k = 1024 * n + q.val := ⟨⟨k - 1024 * n, by omega⟩, by
      show k = 1024 * n + (k - 1024 * n); omega⟩
    exact (hsc q).symm.le.trans (hle q)

end Cert.KernelIdeal.Hand
-- ==== Proof.RefPick.lean ====
/-
  The reference's result: per row the first column of the greatest noisy logit, and the one-hot matrix of these columns.
-/
module

public import proofs.«01_k».proof.Proof.Score
public import Idealize.ShloMosaic.PureOps.Reduce
public import Idealize.ShloMosaic.PureOps.Ideal.Laws
public import Idealize.ShloMosaic.Lib.Routing.OpsPair
public import Idealize.ShloMosaic.Lib.Routing.OpsSet
public import Idealize.ShloMosaic.Lib.IdealHost
public import Mathlib.Data.Prod.Lex

@[expose] public section

set_option maxRecDepth 16384

noncomputable section

namespace Cert.ReferenceIdeal.Hand

open Idealize.ShloMosaic Idealize.ShloMosaic.TcCoe Idealize.ShloMosaic.StableHlo Cert.Word Cert.Pick
open Facts₀ Facts

variable {V : Vals Ideal}

/-- The word a 32-bit integer buffer holds at an index. -/
def wd {s : Shape} (V : Vals Ideal) (x : TRef sig ⟨s, .i32⟩) (i : s.Idx) : BitVec 32 := val V x i

/-! ## The arg-max -/

/-- The order in which the arg-max's reducer prefers its pairs: the greater value, then the lesser column. -/
def rank (p : EReal × BitVec 32) : Lex (ERealᵒᵈ × ℤ) := toLex (OrderDual.toDual p.1, p.2.toInt)

theorem rank_le (p q : EReal × BitVec 32) : rank p ≤ rank q ↔ q.1 < p.1 ∨ p.1 = q.1 ∧ p.2.toInt ≤ q.2.toInt := by
  rw [rank, rank, Prod.Lex.toLex_le_toLex]
  exact Iff.rfl

/-- The reducer, its comparisons decided. -/
theorem reducer_eq (a b : EReal × BitVec 32) : (reducer_argmax_f32_i32 (F := Ideal) a b : EReal × BitVec 32)
    = (if b.1 < a.1 then a.1 else b.1, if b.1 < a.1 ∨ a.1 = b.1 ∧ a.2.toInt < b.2.toInt then a.2 else b.2) := by
  show ((if IntOp.ori (BitVec.ofBool (decide (b.1 < a.1))) (BitVec.ofBool (decide (a.1 ≠ a.1))) = 1#1 then a.1 else b.1,
    if IntOp.ori (IntOp.ori (BitVec.ofBool (decide (b.1 < a.1))) (BitVec.ofBool (decide (a.1 ≠ a.1))))
      (IntOp.andi (BitVec.ofBool (decide (a.1 = b.1))) (BitVec.ofBool (a.2.slt b.2))) = 1#1 then a.2 else b.2)
      : EReal × BitVec 32) = _
  rw [BitVec.slt_eq_decide]
  by_cases h1 : b.1 < a.1 <;> by_cases h2 : a.1 = b.1 <;> by_cases h3 : a.2.toInt < b.2.toInt <;>
    simp [h1, h2, h3, IntOp.ori, IntOp.andi]

theorem reducer_picks : Picks rank (fun a b => (reducer_argmax_f32_i32 (F := Ideal) a b : EReal × BitVec 32)) := by
  intro a b
  simp only [reducer_eq, rank_le]
  rcases lt_trichotomy b.1 a.1 with h | h | h
  · exact .inl ⟨by rw [if_pos h, if_pos (.inl h)], .inl h⟩
  · have hn : ¬ b.1 < a.1 := by rw [h]; exact lt_irrefl _
    by_cases h3 : a.2.toInt < b.2.toInt
    · exact .inl ⟨by rw [if_neg hn, if_pos (.inr ⟨h.symm, h3⟩), h], .inr ⟨h.symm, h3.le⟩⟩
    · exact .inr ⟨by rw [if_neg hn, if_neg (by rintro (h' | h'); exacts [hn h', h3 h'.2])], .inr ⟨h, not_lt.1 h3⟩⟩
  · have hn : ¬ b.1 < a.1 := not_lt.2 h.le
    exact .inr ⟨by rw [if_neg hn, if_neg (by rintro (h' | h'); exacts [hn h', h.ne h'.1])], .inl h⟩

/-- The fold of the reducer from `(⊥, 0)` over pairs of a row's value and its column, every column among them. -/
theorem foldl_first (g : ℕ → EReal) (l : List (EReal × BitVec 32))
    (hl : ∀ p ∈ l, ∃ n, n < 100000 ∧ p = (g n, BitVec.ofNat 32 n)) (hg : ∀ n < 100000, (g n, BitVec.ofNat 32 n) ∈ l)
    (p : EReal × BitVec 32)
    (hp : l.foldl (fun a b => (reducer_argmax_f32_i32 (F := Ideal) a b : EReal × BitVec 32)) (⊥, 0#32) = p) :
    First g 100000 p.1 p.2.toNat := by
  obtain ⟨h1, h2, h3⟩ := foldl_pick reducer_picks l (⊥, 0#32)
  rw [hp] at h1 h2 h3
  have hint : ∀ n < 100000, (BitVec.ofNat 32 n).toInt = n := fun n hn => by
    rw [BitVec.toInt_eq_toNat_of_lt (by rw [BitVec.toNat_ofNat]; omega), BitVec.toNat_ofNat]
    omega
  have hnat : ∀ n < 100000, (BitVec.ofNat 32 n).toNat = n := fun n hn => by
    rw [BitVec.toNat_ofNat]; omega
  have hle : ∀ n < 100000, g n < p.1 ∨ p.1 = g n ∧ p.2.toInt ≤ n := fun n hn => by
    have h := (rank_le _ _).1 (h3 _ (hg n hn))
    rwa [hint n hn] at h
  refine ⟨fun n hn => ?_, ?_⟩
  · rcases hle n hn with h | h
    · exact h.le
    · exact h.1.symm.le
  · rcases h1 with rfl | h1
    · exact .inl ⟨rfl, rfl⟩
    · obtain ⟨k, hk, rfl⟩ := hl p h1
      rw [hnat k hk]
      by_cases hb : g k = ⊥
      · refine .inl ⟨hb, ?_⟩
        have h := (rank_le _ _).1 h2
        have hz : (0#32).toInt = 0 := by decide
        rw [hint k hk, hz] at h
        rcases h with h | h
        · exact absurd h (by rw [hb]; exact lt_irrefl _)
        · omega
      · refine .inr ⟨hk, rfl, fun n hn => ?_⟩
        have h := hle n (by omega)
        rw [hint k hk] at h
        rcases h with h | h
        · exact h
        · omega

/-- An index drops to its row. -/
theorem drop_row (j : S128x100000.Idx) : reducesTo_S128x100000_S128_d1.drop j = ValueIdx.ix1 (j 0) := by
  funext a
  match a with
  | ⟨0, _⟩ => exact Fin.ext rfl

/-- What the arg-max's line leaves: the first column of the row's greatest value. -/
theorem argmax_value {arg0 : TRef sig ⟨S128x100000, .f32⟩} {φ : fn_argmax.Bufs} (h : Solved (argmax arg0 φ) V)
    (r : Fin 128) (g : ℕ → EReal) (hg : ∀ n (hn : n < 100000), fl V arg0 (ValueIdx.ix2 r ⟨n, hn⟩) = g n) :
    ∃ M, First g 100000 M (wd V φ.v1_1 (ValueIdx.ix1 r)).toNat := by
  simp only [argmax, solved_cons] at h
  obtain ⟨h1, h2, h3, -, h5, -⟩ := h
  have e : wd V φ.v1_1 (ValueIdx.ix1 r) = _ := congrFun (holds_quat h5) (ValueIdx.ix1 r)
  rw [e]
  rw [Ideal.argReduce_eq_reduce2, Host.reduce2_eq_foldl_fiber, holds_nul h1, holds_nul h2, holds_nul h3]
  have hb : constant (F := Ideal) S_ .f32 0xFF800000#32 (Shape.Idx.first h_S_) = (⊥ : EReal) := by
    show Ideal.ofBits .f32 0xFF800000#32 = ⊥
    simp [Ideal.ofBits, Ideal.ieee]
  rw [hb]
  have hi : ∀ j : S128x100000.Idx, (j 0 = r) → (val V arg0 j, iotaInDim S128x100000 32 1 j)
      = (g (j 1).val, BitVec.ofNat 32 (j 1).val) := fun j hj => by
    have e0 : j = ValueIdx.ix2 r ⟨(j 1).val, (j 1).isLt⟩ :=
      (ValueIdx.eq_ix2 j).trans (congrArg (fun r => ValueIdx.ix2 r (j 1)) hj)
    refine Prod.ext ?_ rfl
    exact (congrArg (val V arg0) e0).trans (hg (j 1).val (j 1).isLt)
  refine ⟨_, foldl_first g (Host.argReduceFiber (val V arg0) (iotaInDim S128x100000 32 1) reducesTo_S128x100000_S128_d1
    (ValueIdx.ix1 r)) ?_ ?_ _ rfl⟩
  · intro p hp
    rw [Host.argReduceFiber, List.mem_map] at hp
    obtain ⟨n, hn, rfl⟩ := hp
    have hd := of_decide_eq_true (List.mem_filter.1 hn).2
    rw [drop_row] at hd
    exact ⟨_, (S128x100000.rowMajor.symm n 1).isLt, hi _ (congrFun hd 0)⟩
  · intro n hn
    rw [Host.argReduceFiber, List.mem_map]
    refine ⟨S128x100000.rowMajor (ValueIdx.ix2 r ⟨n, hn⟩), List.mem_filter.2 ⟨List.mem_finRange _, decide_eq_true ?_⟩, ?_⟩
    · rw [Equiv.symm_apply_apply, drop_row]
      rfl
    · rw [Equiv.symm_apply_apply]
      exact hi _ rfl

/-! ## The scatter -/

/-- Update `a` of the scatter lands where the two words of its row of the table say. -/
theorem lands (idx : IVec S128x2 32) (a : Fin 128) (r : Fin 128) (n : Fin 100000) :
    scatter_S128x100000_S128x2_S128_n_01_01_1.resultIdx? (ValueIdx.ix1 a) idx = some (ValueIdx.ix2 r n)
      ↔ (idx (ValueIdx.ix2 a 0)).toInt = r.val ∧ (idx (ValueIdx.ix2 a 1)).toInt = n.val := by
  have hw : ∀ q : Fin 2, scatter_S128x100000_S128x2_S128_n_01_01_1.window (ValueIdx.ix1 a) q = 0 := fun q => by
    fin_cases q <;> rfl
  have hi0 : scatter_S128x100000_S128x2_S128_n_01_01_1.siIdx (ValueIdx.ix1 a) ⟨0, Nat.two_pos⟩ = ValueIdx.ix2 a 0 := by
    funext b
    match b with
    | ⟨0, _⟩ => exact Fin.ext rfl
    | ⟨1, _⟩ => exact Fin.ext rfl
  have hi1 : scatter_S128x100000_S128x2_S128_n_01_01_1.siIdx (ValueIdx.ix1 a) ⟨1, Nat.one_lt_two⟩ = ValueIdx.ix2 a 1 := by
    funext b
    match b with
    | ⟨0, _⟩ => exact Fin.ext rfl
    | ⟨1, _⟩ => exact Fin.ext rfl
  have hs0 : scatter_S128x100000_S128x2_S128_n_01_01_1.start (ValueIdx.ix1 a) idx 0 = (idx (ValueIdx.ix2 a 0)).toInt := by
    rw [← hi0]; rfl
  have hs1 : scatter_S128x100000_S128x2_S128_n_01_01_1.start (ValueIdx.ix1 a) idx 1 = (idx (ValueIdx.ix2 a 1)).toInt := by
    rw [← hi1]; rfl
  refine (Routing.resultIdx?_ix2 scatter_S128x100000_S128x2_S128_n_01_01_1 (ValueIdx.ix1 a) idx r n).trans ?_
  rw [hs0, hs1]
  have h0 := hw 0
  have h1 := hw 1
  rw [h0, h1]
  simp

/-- So with a table that holds in its row `a` the words `a` and `k a`, it lands at `(a, k a)`. -/
theorem lands_row (idx : IVec S128x2 32) (k : Fin 128 → BitVec 32)
    (h : ∀ a, idx (ValueIdx.ix2 a 0) = BitVec.ofNat 32 a.val ∧ idx (ValueIdx.ix2 a 1) = k a) (hk : ∀ a, (k a).toNat < 100000)
    (a : Fin 128) (r : Fin 128) (n : Fin 100000) :
    scatter_S128x100000_S128x2_S128_n_01_01_1.resultIdx? (ValueIdx.ix1 a) idx = some (ValueIdx.ix2 r n)
      ↔ a = r ∧ (k a).toNat = n.val := by
  have ha := a.isLt
  have hka := hk a
  rw [lands, (h a).1, (h a).2, BitVec.toInt_eq_toNat_of_lt (by rw [BitVec.toNat_ofNat]; omega),
    BitVec.toInt_eq_toNat_of_lt (by omega), BitVec.toNat_ofNat, Fin.ext_iff]
  omega

/-- The table of indices: the row's number and the row's column. -/
theorem table_value (h : Solved main2 V) (hk : ∀ a : Fin 128, (wd V (.of main_v10) (ValueIdx.ix1 a)).toNat < 100000)
    (a : Fin 128) : wd V (.of main_v25) (ValueIdx.ix2 a 0) = BitVec.ofNat 32 a.val
      ∧ wd V (.of main_v25) (ValueIdx.ix2 a 1) = wd V (.of main_v10) (ValueIdx.ix1 a) := by
  simp only [main2, solved_cons] at h
  obtain ⟨a1, a2, a3, a4, a5, a6, a7, a8, a9, a10, a11, a12, a13, a14, a15, a16, a17, a18, a19, a20, -⟩ := h
  have e12 : wd V (.of main_v12) (ValueIdx.ix1 a) = BitVec.ofNat 32 a.val := congrFun (holds_nul a3) _
  have e13 : wd V (.of main_v13) (ValueIdx.ix1 a) = 0#32 := (congrFun (holds_un a5) _).trans (congrFun (holds_nul a4) _)
  have e18 : wd V (.of main_v18) (ValueIdx.ix1 a) = 0#32 := (congrFun (holds_un a12) _).trans (congrFun (holds_nul a11) _)
  have e17 : wd V (.of main_v17) (ValueIdx.ix1 a) = BitVec.ofNat 32 a.val := by
    refine (congrFun (holds_ter a10) _).trans ?_
    show Scalar.select (val V (.of main_v14) (ValueIdx.ix1 a)) _ (wd V (.of main_v12) (ValueIdx.ix1 a)) = _
    have e14 : val V (.of main_v14) (ValueIdx.ix1 a) = IntOp.cmpi .slt (wd V (.of main_v12) (ValueIdx.ix1 a)) 0#32 := by
      refine (congrFun (holds_bin a6) _).trans ?_
      show IntOp.cmpi .slt _ (wd V (.of main_v13) (ValueIdx.ix1 a)) = _
      rw [e13]; rfl
    rw [e14, e12]
    have := a.isLt
    exact Routing.wrap_of_lt _ _ (by rw [BitVec.toNat_ofNat]; omega)
  have e22 : wd V (.of main_v22) (ValueIdx.ix1 a) = wd V (.of main_v10) (ValueIdx.ix1 a) := by
    refine (congrFun (holds_ter a17) _).trans ?_
    show Scalar.select (val V (.of main_v19) (ValueIdx.ix1 a)) _ (wd V (.of main_v10) (ValueIdx.ix1 a)) = _
    have e19 : val V (.of main_v19) (ValueIdx.ix1 a) = IntOp.cmpi .slt (wd V (.of main_v10) (ValueIdx.ix1 a)) 0#32 := by
      refine (congrFun (holds_bin a13) _).trans ?_
      show IntOp.cmpi .slt _ (wd V (.of main_v18) (ValueIdx.ix1 a)) = _
      rw [e18]; rfl
    rw [e19]
    have := hk a
    exact Routing.wrap_of_lt _ _ (by omega)
  have e23 : ∀ j, j 0 = a → wd V (.of main_v23) j = BitVec.ofNat 32 a.val := fun j hj => by
    refine (congrFun (holds_un a18) j).trans (Eq.trans (congrArg (val V (.of main_v17)) ?_) e17)
    rw [← hj]
    funext b
    match b with
    | ⟨0, _⟩ => exact Fin.ext rfl
  have e24 : ∀ j, j 0 = a → wd V (.of main_v24) j = wd V (.of main_v10) (ValueIdx.ix1 a) := fun j hj => by
    refine (congrFun (holds_un a19) j).trans (Eq.trans (congrArg (val V (.of main_v22)) ?_) e22)
    rw [← hj]
    funext b
    match b with
    | ⟨0, _⟩ => exact Fin.ext rfl
  constructor
  · refine (congrFun (holds_bin a20) _).trans ((concatenate_pair_apply _ _ _ _ _).trans ?_)
    rw [dif_pos (by show (0 : ℕ) < 1; omega)]
    exact e23 _ (Fin.ext rfl)
  · refine (congrFun (holds_bin a20) _).trans ((concatenate_pair_apply _ _ _ _ _).trans ?_)
    rw [dif_neg (by show ¬ (1 : ℕ) < 1; omega)]
    exact e24 _ (Fin.ext rfl)

/-- The one-hot matrix. -/
theorem matrix_value (h : Solved main2 V) (hk : ∀ a : Fin 128, (wd V (.of main_v10) (ValueIdx.ix1 a)).toNat < 100000)
    (r : Fin 128) (n : Fin 100000) : fl V (.of main_v27) (ValueIdx.ix2 r n)
      = if (wd V (.of main_v10) (ValueIdx.ix1 r)).toNat = n.val then 1 else 0 := by
  have ht := table_value h hk
  simp only [main2, solved_cons] at h
  obtain ⟨a1, a2, a3, a4, a5, a6, a7, a8, a9, a10, a11, a12, a13, a14, a15, a16, a17, a18, a19, a20, a21, a22, a23, -⟩ := h
  have z : ∀ j, fl V (.of main_v11) j = 0 := fun j => by
    refine (congrFun (holds_un a2) j).trans ((congrFun (holds_nul a1) _).trans ?_)
    show Ideal.ofBits .f32 0x00000000#32 = 0
    simp [Ideal.ofBits, Ideal.ieee]
  have o : ∀ j, fl V (.of main_v26) j = 1 := fun j => by
    refine (congrFun (holds_un a22) j).trans ((congrFun (holds_nul a21) _).trans ?_)
    exact Ideal.ofBits_one_f32
  have hl := fun a => lands_row (wd V (.of main_v25)) (fun a => wd V (.of main_v10) (ValueIdx.ix1 a)) ht hk a r n
  refine (congrFun (holds_ter a23) (ValueIdx.ix2 r n)).trans ?_
  by_cases hn : (wd V (.of main_v10) (ValueIdx.ix1 r)).toNat = n.val
  · rw [if_pos hn]
    exact Routing.scatter_set_hit _ _ _ _ _ (1 : EReal) (fun k _ => o k) (ValueIdx.ix1 r) ((hl r).2 ⟨rfl, hn⟩)
  · rw [if_neg hn]
    refine (Routing.scatter_set_miss _ _ _ _ _ fun k hk' => ?_).trans (z _)
    rw [ValueIdx.eq_ix1 k] at hk'
    obtain ⟨e, e'⟩ := (hl (k 0)).1 hk'
    exact hn (e ▸ e')

/-- The reference's result: the one-hot matrix of the first columns of the rows' greatest noisy logits. -/
theorem result_value (h : Solved whole V) (A : S128x100000.Idx → EReal) (hA : ∀ j, fl V (.of main_arg0) j = A j)
    (r : Fin 128) : ∃ M k, First (score A r) 100000 M k
      ∧ ∀ n : Fin 100000, fl V (.of main_v27) (ValueIdx.ix2 r n) = if k = n.val then 1 else 0 := by
  have hlog := logit_value h
  simp only [whole, solved_append, and_assoc] at h
  obtain ⟨-, -, -, hm, h2⟩ := h
  have hf : ∀ r : Fin 128, ∃ M, First (score A r) 100000 M (wd V (.of main_v10) (ValueIdx.ix1 r)).toNat := fun r =>
    argmax_value hm r (score A r) fun n hn => by
      rw [hlog, hA, score, dif_pos hn]
      rfl
  have hk : ∀ a : Fin 128, (wd V (.of main_v10) (ValueIdx.ix1 a)).toNat < 100000 := fun a => by
    obtain ⟨M, -, h | h⟩ := hf a
    · rw [h.2]; omega
    · exact h.1
  obtain ⟨M, hM⟩ := hf r
  exact ⟨M, _, hM, matrix_value h2 hk r⟩

end Cert.ReferenceIdeal.Hand
-- ==== Proof.Equal.lean ====
/-
  The two results are one: the kernel's rows are one-hot at the first columns of the greatest noisy logits, as the
  reference's are.
-/
module

public import proofs.«01_k».proof.Proof.KerScan
public import proofs.«01_k».proof.Proof.RefPick
public import proofs.«01_k».proof.Proof.RefRun

@[expose] public section

set_option maxRecDepth 16384

noncomputable section

namespace Cert.Equal

open Idealize.ShloMosaic Idealize.ShloMosaic.TcCoe
open Cert.Word Cert.Pick
open Cert.KernelIdeal.Hand (oneHot rowIx acc acc_first input)
open Cert.ReferenceIdeal.Hand (fin fin_solved fin_arg fl result_value)

/-- The kernel's one-hot rows, as extended reals. -/
theorem oneHot_apply (J : Cert.KernelIdeal.S128x1.Idx → BitVec 32) (r : Fin 128) (n : Fin 100000) :
    (oneHot (F := Ideal) J (ValueIdx.ix2 r n) : EReal) = if (J (rowIx r)).toNat = n.val then 1 else 0 := by
  have hn := n.isLt
  show (((BitVec.zeroExtend 32 (BitVec.ofBool (BitVec.ofNat 32 n.val == J (rowIx r)))).toInt : ℝ) : EReal) = _
  by_cases h : (J (rowIx r)).toNat = n.val
  · have e : BitVec.ofNat 32 n.val = J (rowIx r) := by rw [← h, BitVec.ofNat_toNat, BitVec.setWidth_eq]
    rw [if_pos h, e, beq_self_eq_true]
    have : (BitVec.zeroExtend 32 (BitVec.ofBool true)).toInt = 1 := by decide
    rw [this]
    simp
  · have e : BitVec.ofNat 32 n.val ≠ J (rowIx r) := fun e => h (by rw [← e, BitVec.toNat_ofNat]; omega)
    rw [if_neg h, beq_eq_false_iff_ne.2 e]
    have : (BitVec.zeroExtend 32 (BitVec.ofBool false)).toInt = 0 := by decide
    rw [this]
    simp

/-- Buffers that satisfy the reference's equations hold, as its result, the one-hot rows of the columns `J` that the
    kernel's scan finds in the same argument. -/
theorem rows_eq {V : Cert.ReferenceIdeal.Hand.Vals Ideal} (hs : Cert.ReferenceIdeal.Hand.Solved Cert.ReferenceIdeal.Hand.whole V)
    (A : Cert.ReferenceIdeal.S128x100000.Idx → EReal) (hA : ∀ j, fl V (.of Cert.ReferenceIdeal.main_arg0) j = A j)
    (J : Cert.KernelIdeal.S128x1.Idx → BitVec 32)
    (hJ : ∀ r : Fin 128, ∃ M, First (score A r) (1024 * 98) M (J (rowIx r)).toNat)
    (j : Cert.ReferenceIdeal.S128x100000.Idx) :
    fl V (.of Cert.ReferenceIdeal.main_v27) j = (oneHot (F := Ideal) J j : EReal) := by
  obtain ⟨r, n, rfl⟩ : ∃ (r : Fin 128) (n : Fin 100000), j = ValueIdx.ix2 r n := ⟨j 0, j 1, ValueIdx.eq_ix2 j⟩
  obtain ⟨M, k, hk, hv⟩ := result_value hs A hA r
  obtain ⟨M', hM⟩ := hJ r
  have hk' := (hk.extend (n' := 1024 * 98) (by omega) (score_past _ r)).unique hM
  rw [hv n, hk']
  exact (oneHot_apply J r n).symm

/-- The same of the whole buffers. -/
theorem buffers_eq {V : Cert.ReferenceIdeal.Hand.Vals Ideal} (hs : Cert.ReferenceIdeal.Hand.Solved Cert.ReferenceIdeal.Hand.whole V)
    (A : Cert.ReferenceIdeal.S128x100000.Idx → EReal) (hA : V (Proc.devRef .tc Cert.ReferenceIdeal.main_arg0) = A)
    (J : Cert.KernelIdeal.S128x1.Idx → BitVec 32)
    (hJ : ∀ r : Fin 128, ∃ M, First (score A r) (1024 * 98) M (J (rowIx r)).toNat) :
    V (Proc.devRef .tc Cert.ReferenceIdeal.main_v27) = oneHot (F := Ideal) J :=
  funext (rows_eq hs A (congrFun hA) J hJ)

/-- From launch memories that agree on the argument, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    fin m' c (Proc.devRef .tc Cert.ReferenceIdeal.main_v27) = oneHot (acc m c 98).2 :=
  buffers_eq (fin_solved m' c) (input m c) ((fin_arg m' c).trans h) (acc m c 98).2
    fun r => ⟨_, acc_first m c r 98 le_rfl⟩

end Cert.Equal
-- ==== Proof.SameText.lean ====
/-
  The kernel and its idealization are one text: no rule rewrote an operation, so at any float values the two
  programs are the same term up to the names of their definitions. What is proved of the one, for any float values,
  holds of the other.
-/
module

public import proofs.«01_k».proof.Defs
public import proofs.«01_k».proof.Proof.Gen.Kernel
public import proofs.«01_k».proof.Proof.Gen.KernelIdeal

@[expose] public section

set_option maxRecDepth 16384

noncomputable section

namespace Cert.SameText

open Idealize.ShloMosaic Idealize.ShloMosaic.TcCoe Idealize.SL Idealize.SL.Sem

instance : Cert.Kernel.Facts := Cert.Kernel.Gen.facts
instance : Cert.KernelIdeal.Facts := Cert.KernelIdeal.Gen.facts

variable {F : FTy → Type} [FloatOps F]

/-- The two programs' pipelines are equal, -/
theorem cfg0_eq : Cert.Kernel.cfg0 = Cert.KernelIdeal.cfg0 := by
  unfold Cert.Kernel.cfg0 Cert.KernelIdeal.cfg0
  congr 1

/-- and so are their body tables. -/
theorem defs₀_eq : Cert.Kernel.defs₀ (F := F) = Cert.KernelIdeal.defs₀ (F := F) := by
  unfold Cert.Kernel.defs₀ Cert.KernelIdeal.defs₀
  congr 1
  funext l a
  fin_cases l
  rfl

/-- What every run from `s` of the program made of pipeline `cfg` and body table `d` satisfies. -/
def Runs (cfg : Pipeline.Cfg Cert.KernelIdeal.sig Cert.KernelIdeal.Λ₀)
    (d : Defs Cert.KernelIdeal.nD Cert.KernelIdeal.τ Cert.KernelIdeal.sig (Elt F) Cert.KernelIdeal.Λ₀)
    (s : MemSt Cert.KernelIdeal.nD Cert.KernelIdeal.τ Cert.KernelIdeal.sig (Elt F))
    (Q : PUnit × MemSt Cert.KernelIdeal.nD Cert.KernelIdeal.τ Cert.KernelIdeal.sig (Elt F) → Prop) : Prop :=
  θ_run (Pipeline.defs (fun _ : Fin 1 => cfg.toPCfg (Val := Elt F)) d)
    (onTc (τ := Cert.KernelIdeal.τ) fun _ => (do Prog.lift (.customCall (Pipeline.entry 0) ()); pure ⟨⟩)) s Q

/-- A run of the idealized program, at any float values, is a run of the kernel. -/
theorem run_of_ideal (s : MemSt Cert.KernelIdeal.nD Cert.KernelIdeal.τ Cert.KernelIdeal.sig (Elt F))
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have h' : Runs Cert.KernelIdeal.cfg0 Cert.KernelIdeal.defs₀ s Q := h
  have h2 : Runs Cert.Kernel.cfg0 Cert.Kernel.defs₀ s Q := by
    rw [cfg0_eq, defs₀_eq]; exact h'
  exact h2

end Cert.SameText

end
-- ==== Proof.lean ====
/-
  The claims: both texts of the kernel and the reference run, leave their argument as it was and every counter at zero,
  and over the extended reals the kernel's result is the reference's, element by element.
-/
module

public import proofs.«01_k».proof.Defs
public import proofs.«01_k».proof.Proof.Equal
public import proofs.«01_k».proof.Proof.SameText

@[expose] public section

noncomputable section

namespace Cert.Proof

open Idealize.ShloMosaic Idealize.SL.Sem

/-- The kernel as printed, over the machine's floats. -/
theorem kernel_quiescent : quiescent_Kernel (hKernel := Cert.Kernel.Gen.facts) := fun m g _ =>
  Cert.SameText.run_of_ideal ⟨m, fun _ => 0, g⟩ _
    ((θ_run _ _ _).mono (fun _ h => ⟨fun c => (h.1 c).2, h.2⟩) (Cert.KernelIdeal.Hand.run (F := Bits) m g))

/-- The kernel over the extended reals. -/
theorem ideal_quiescent : quiescent_KernelIdeal (hKernelIdeal := Cert.KernelIdeal.Gen.facts) := fun m g _ =>
  (θ_run _ _ _).mono (fun _ h => ⟨fun c => (h.1 c).2, h.2⟩) (Cert.KernelIdeal.Hand.run (F := Ideal) m g)

/-- The reference over the extended reals. -/
theorem reference_quiescent : quiescent_ReferenceIdeal (hReferenceIdeal := Cert.ReferenceIdeal.Gen.facts) := fun m g _ =>
  (θ_run _ _ _).mono (fun _ h => ⟨fun c => (h.1 c).2, h.2⟩) (Cert.ReferenceIdeal.Hand.run m g)

/-- The kernel's result is the reference's. -/
theorem same_result : algebraic_KernelIdeal_ReferenceIdeal (hKernelIdeal := Cert.KernelIdeal.Gen.facts)
    (hReferenceIdeal := Cert.ReferenceIdeal.Gen.facts) := fun m g m' g' _ hm =>
  ⟨fun c => Cert.KernelIdeal.Hand.oneHot (Cert.KernelIdeal.Hand.acc m c 98).2,
    (θ_run _ _ _).mono (fun _ h => h.1) (Cert.KernelIdeal.Hand.run (F := Ideal) m g),
    (θ_run _ _ _).mono (fun _ h c => ⟨(h.1 c).1.trans (Cert.Equal.results_eq m m' c (hm c)), (h.1 c).2⟩)
      (Cert.ReferenceIdeal.Hand.run m' g')⟩

/-- The certificate. -/
theorem claim : Cert.Claim :=
  ⟨Cert.Kernel.Gen.facts, Cert.KernelIdeal.Gen.facts, Cert.ReferenceIdeal.Gen.facts, kernel_quiescent, ideal_quiescent,
    reference_quiescent, trivial, same_result⟩

end Cert.Proof

end
